-- ==== Defs.lean ====
def Pre_KernelIdeal [hPre_one_nearest : Cert.Pre_one_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_nearest [hPre_one_nearest : Cert.Pre_one_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_KernelIdeal [hKernelIdeal : Cert.KernelIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_one_nearest [hReferenceIdeal : Cert.ReferenceIdeal.Facts] [hPre_one_nearest : Cert.Pre_one_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def algebraic_KernelIdeal_ReferenceIdeal [hKernelIdeal : Cert.KernelIdeal.Facts] [hReferenceIdeal : Cert.ReferenceIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v29)) (v4 : (c : Dev Cert.KernelIdeal.nD) → Buf (Elt Ideal) ((c.tc : Thread Cert.KernelIdeal.nD Cert.KernelIdeal.τ).loc Cert.KernelIdeal.main_v28_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_v28_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v13) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernelIdeal : Cert.KernelIdeal.Facts) (hReferenceIdeal : Cert.ReferenceIdeal.Facts) (hPre_one_nearest : Cert.Pre_one_nearest.Facts),
    quiescent_KernelIdeal (hKernelIdeal := hKernelIdeal) (hPre_one_nearest := hPre_one_nearest)
    ∧ quiescent_ReferenceIdeal (hReferenceIdeal := hReferenceIdeal)
    ∧ quiescent_ReferenceIdeal_pre_one_nearest (hReferenceIdeal := hReferenceIdeal) (hPre_one_nearest := hPre_one_nearest)
    ∧ algebraic_KernelIdeal_ReferenceIdeal (hKernelIdeal := hKernelIdeal) (hReferenceIdeal := hReferenceIdeal) (hPre_one_nearest := hPre_one_nearest)
-- ==== Pre_one_nearest.lean ====
abbrev S4x1024x4096 : Shape := ⟨3, ![4, 1024, 4096]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S8192x8 : Shape := ⟨2, ![8192, 8]⟩
abbrev S_ : Shape := ⟨0, ![]⟩
abbrev S8x1 : Shape := ⟨2, ![8, 1]⟩
abbrev S4x4096x8 : Shape := ⟨3, ![4, 4096, 8]⟩
abbrev S4x8x4096 : Shape := ⟨3, ![4, 8, 4096]⟩
abbrev S1x8x1 : Shape := ⟨3, ![1, 8, 1]⟩
abbrev S16384x8 : Shape := ⟨2, ![16384, 8]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S8x8192 : Shape := ⟨2, ![8, 8192]⟩
abbrev S16384x8192 : Shape := ⟨2, ![16384, 8192]⟩
abbrev S1x8192 : Shape := ⟨2, ![1, 8192]⟩
abbrev S16384x2x4096 : Shape := ⟨3, ![16384, 2, 4096]⟩
abbrev S16384x2 : Shape := ⟨2, ![16384, 2]⟩
abbrev S16384x2x1 : Shape := ⟨3, ![16384, 2, 1]⟩

class Facts : Prop where
  reducesTo_S8x1024_S8_d1 : S8x1024.ReducesTo [1] S8
  h_S_ : 0 < S_.numel
  bcast_S8_S8x1_0 : S8.BroadcastsInDim S8x1 (![0] : Fin 1 → Fin S8x1.rank)
  bcast_S8x1_S8x1024_0_1 : S8x1.BroadcastsInDim S8x1024 (![0, 1] : Fin 2 → Fin S8x1024.rank)
  transposes_S4x4096x8_S4x8x4096_0_2_1 : S4x4096x8.Transposes [0, 2, 1] S4x8x4096
  bcast_S8_S1x8x1_1 : S8.BroadcastsInDim S1x8x1 (![1] : Fin 1 → Fin S1x8x1.rank)
  bcast_S1x8x1_S4x8x4096_0_1_2 : S1x8x1.BroadcastsInDim S4x8x4096 (![0, 1, 2] : Fin 3 → Fin S4x8x4096.rank)
  transposes_S4x8x4096_S4x4096x8_0_2_1 : S4x8x4096.Transposes [0, 2, 1] S4x4096x8
  shapeCasts_S4x4096x8_S16384x8 : S4x4096x8.ShapeCasts S16384x8
  reducesTo_S16384x8_S16384_d1 : S16384x8.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  reducesTo_S8192x8_S8192_d1 : S8192x8.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8_0_1 : S8192x1.BroadcastsInDim S8192x8 (![0, 1] : Fin 2 → Fin S8192x8.rank)
  bcast_S_S16384x8 : S_.BroadcastsInDim S16384x8 (![] : Fin 0 → Fin S16384x8.rank)
  transposes_S8192x8_S8x8192_1_0 : S8192x8.Transposes [1, 0] S8x8192
  bcast_S16384x1_S16384x8192_0_1 : S16384x1.BroadcastsInDim S16384x8192 (![0, 1] : Fin 2 → Fin S16384x8192.rank)
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  shapeCasts_S16384x8192_S16384x2x4096 : S16384x8192.ShapeCasts S16384x2x4096
  reducesTo_S16384x2x4096_S16384x2_d2 : S16384x2x4096.ReducesTo [2] S16384x2
  bcast_S16384x2_S16384x2x1_0_1 : S16384x2.BroadcastsInDim S16384x2x1 (![0, 1] : Fin 2 → Fin S16384x2x1.rank)
  bcast_S16384x2x1_S16384x2x4096_0_1_2 : S16384x2x1.BroadcastsInDim S16384x2x4096 (![0, 1, 2] : Fin 3 → Fin S16384x2x4096.rank)
  bcast_S_S4x8x4096 : S_.BroadcastsInDim S4x8x4096 (![] : Fin 0 → Fin S4x8x4096.rank)
  reducesTo_S4x8x4096_S_d0_1_2 : S4x8x4096.ReducesTo [0, 1, 2] S_
  natLt_1_32 : 1 < 32
  bcast_S_S16384x2 : S_.BroadcastsInDim S16384x2 (![] : Fin 0 → Fin S16384x2.rank)
  reducesTo_S16384x2_S_d0_1 : S16384x2.ReducesTo [0, 1] S_
  dot_S4x1024x4096_S8x1024_S4x4096x8_1_1_02_0_n_n_wf : DotDims.WF S4x1024x4096 S8x1024 S4x4096x8 [1] [1] [0, 2] [0] [] []
  dot_S16384x8_S8x8192_S16384x8192_1_0_0_1_n_n_wf : DotDims.WF S16384x8 S8x8192 S16384x8192 [1] [0] [0] [1] [] []

variable [Facts]

def dot_S4x1024x4096_S8x1024_S4x4096x8_1_1_02_0_n_n : DotDims S4x1024x4096 S8x1024 S4x4096x8 where
  lhsContracting := [1]
  rhsContracting := [1]
  lhsNonContracting := [0, 2]
  rhsNonContracting := [0]
  lhsBatch := []
  rhsBatch := []
  wf := dot_S4x1024x4096_S8x1024_S4x4096x8_1_1_02_0_n_n_wf
def dot_S16384x8_S8x8192_S16384x8192_1_0_0_1_n_n : DotDims S16384x8 S8x8192 S16384x8192 where
  lhsContracting := [1]
  rhsContracting := [0]
  lhsNonContracting := [0]
  rhsNonContracting := [1]
  lhsBatch := []
  rhsBatch := []
  wf := dot_S16384x8_S8x8192_S16384x8192_1_0_0_1_n_n_wf
def fn_norm {F : FTy → Type} [FloatOps F] (arg0 : FVec F S16384x8 .f32) : FVec F S16384x1 .f32 :=
  let v0 : FVec F S16384x8 .f32 := mulf arg0 arg0
  let cst : FVec F S_ .f32 := constant S_ .f32 0x00000000#32
  let v1 : FVec F S16384 .f32 := (fun x v => Host.reduceAdd x v reducesTo_S16384x8_S16384_d1 h_S_) v0 cst
  let v2 : FVec F S16384x1 .f32 := broadcastInDim S16384x1 ![0] bcast_S16384_S16384x1_0 v1
  let v3 : FVec F S16384x1 .f32 := Host.sqrt v2
  v3

def fn_norm_0 {F : FTy → Type} [FloatOps F] (arg0 : FVec F S8192x8 .f32) : FVec F S8192x1 .f32 :=
  let v0 : FVec F S8192x8 .f32 := mulf arg0 arg0
  let cst : FVec F S_ .f32 := constant S_ .f32 0x00000000#32
  let v1 : FVec F S8192 .f32 := (fun x v => Host.reduceAdd x v reducesTo_S8192x8_S8192_d1 h_S_) v0 cst
  let v2 : FVec F S8192x1 .f32 := broadcastInDim S8192x1 ![0] bcast_S8192_S8192x1_0 v1
  let v3 : FVec F S8192x1 .f32 := Host.sqrt v2
  v3

def fn_part2 {F : FTy → Type} [FloatOps F] (main_v13 : FVec F S4x8x4096 .f32) (main_v40 : FVec F S16384x2x4096 .f32) (main_cst_5 : FVec F S_ .f32) : IVec S_ 1 :=
  let main_v41 : FVec F S16384x2 .f32 := (fun x v => Host.reduce FloatOps.minimumf x v reducesTo_S16384x2x4096_S16384x2_d2 h_S_) main_v40 main_cst_5
  let main_v42 : FVec F S16384x2x1 .f32 := broadcastInDim S16384x2x1 ![0, 1] bcast_S16384x2_S16384x2x1_0_1 main_v41
  let main_v43 : FVec F S16384x2x4096 .f32 := broadcastInDim S16384x2x4096 ![0, 1, 2] bcast_S16384x2x1_S16384x2x4096_0_1_2 main_v42
  let main_v44 : IVec S16384x2x4096 1 := cmpf .oeq main_v40 main_v43
  let main_v45 : FVec F S4x8x4096 .f32 := Host.absf main_v13
  let main_cst_6 : FVec F S_ .f32 := constant S_ .f32 0x7F800000#32
  let main_v46 : FVec F S4x8x4096 .f32 := broadcastInDim S4x8x4096 ![] bcast_S_S4x8x4096 main_cst_6
  let main_v47 : IVec S4x8x4096 1 := cmpf .olt main_v45 main_v46
  let main_c : IVec S_ 1 := constantI S_ 1 1#1
  let main_v48 : IVec S_ 1 := (fun x v => Host.reduce IntOp.andi x v reducesTo_S4x8x4096_S_d0_1_2 h_S_) main_v47 main_c
  let main_v49 : IVec S16384x2x4096 32 := (extui 32 · natLt_1_32) main_v44
  let main_c_7 : IVec S_ 32 := constantI S_ 32 0#32
  let main_v50 : IVec S16384x2 32 := (fun x v => Host.reduce IntOp.addi x v reducesTo_S16384x2x4096_S16384x2_d2 h_S_) main_v49 main_c_7
  let main_c_8 : IVec S_ 32 := constantI S_ 32 1#32
  let main_v51 : IVec S16384x2 32 := broadcastInDim S16384x2 ![] bcast_S_S16384x2 main_c_8
  let main_v52 : IVec S16384x2 1 := cmpi .eq main_v50 main_v51
  let main_c_9 : IVec S_ 1 := constantI S_ 1 1#1
  let main_v53 : IVec S_ 1 := (fun x v => Host.reduce IntOp.andi x v reducesTo_S16384x2_S_d0_1 h_S_) main_v52 main_c_9
  let main_v54 : IVec S_ 1 := andi main_v48 main_v53
  main_v54

def fn_part1 {F : FTy → Type} [FloatOps F] (main_arg7 : FVec F S8192x8 .f32) (main_v13 : FVec F S4x8x4096 .f32) (main_v20 : FVec F S16384x8 .f32) (main_v21 : FVec F S8192x1 .f32) : IVec S_ 1 :=
  let main_cst_1 : FVec F S_ .f32 := constant S_ .f32 0x2B8CBCCC#32
  let main_v22 : FVec F S8192x1 .f32 := broadcastInDim S8192x1 ![] bcast_S_S8192x1 main_cst_1
  let main_v23 : FVec F S8192x1 .f32 := maximumf main_v21 main_v22
  let main_v24 : FVec F S8192x8 .f32 := broadcastInDim S8192x8 ![0, 1] bcast_S8192x1_S8192x8_0_1 main_v23
  let main_v25 : FVec F S8192x8 .f32 := Host.divf main_arg7 main_v24
  let main_v26 : FVec F S16384x8 .f32 := mulf main_v20 main_v20
  let main_cst_2 : FVec F S_ .f32 := constant S_ .f32 0x00000000#32
  let main_v27 : FVec F S16384 .f32 := (fun x v => Host.reduceAdd x v reducesTo_S16384x8_S16384_d1 h_S_) main_v26 main_cst_2
  let main_v28 : FVec F S16384x1 .f32 := broadcastInDim S16384x1 ![0] bcast_S16384_S16384x1_0 main_v27
  let main_cst_3 : FVec F S_ .f32 := constant S_ .f32 0x40000000#32
  let main_v29 : FVec F S16384x8 .f32 := broadcastInDim S16384x8 ![] bcast_S_S16384x8 main_cst_3
  let main_v30 : FVec F S16384x8 .f32 := mulf main_v29 main_v20
  let main_v31 : FVec F S8x8192 .f32 := (transpose S8x8192 [1, 0] · transposes_S8192x8_S8x8192_1_0) main_v25
  let main_v32 : FVec F S16384x8192 .f32 := (fun l r => Host.dotGeneral dot_S16384x8_S8x8192_S16384x8192_1_0_0_1_n_n none l r) main_v30 main_v31
  let main_v33 : FVec F S16384x8192 .f32 := broadcastInDim S16384x8192 ![0, 1] bcast_S16384x1_S16384x8192_0_1 main_v28
  let main_v34 : FVec F S16384x8192 .f32 := subf main_v33 main_v32
  let main_v35 : FVec F S8192x8 .f32 := mulf main_v25 main_v25
  let main_cst_4 : FVec F S_ .f32 := constant S_ .f32 0x00000000#32
  let main_v36 : FVec F S8192 .f32 := (fun x v => Host.reduceAdd x v reducesTo_S8192x8_S8192_d1 h_S_) main_v35 main_cst_4
  let main_v37 : FVec F S1x8192 .f32 := broadcastInDim S1x8192 ![1] bcast_S8192_S1x8192_1 main_v36
  let main_v38 : FVec F S16384x8192 .f32 := broadcastInDim S16384x8192 ![0, 1] bcast_S1x8192_S16384x8192_0_1 main_v37
  let main_v39 : FVec F S16384x8192 .f32 := addf main_v34 main_v38
  let main_v40 : FVec F S16384x2x4096 .f32 := shapeCast S16384x2x4096 main_v39 shapeCasts_S16384x8192_S16384x2x4096
  let main_cst_5 : FVec F S_ .f32 := constant S_ .f32 0x7F800000#32
  fn_part2 (F := F) main_v13 main_v40 main_cst_5

def fn {F : FTy → Type} [FloatOps F] (main_arg0 : FVec F S4x1024x4096 .f32) (main_arg1 : FVec F S8x1024 .f32) (main_arg2 : FVec F S8 .f32) (main_arg3 : FVec F S8 .f32) (main_arg4 : FVec F S1024x8 .f32) (main_arg5 : FVec F S1024 .f32) (main_arg6 : FVec F S1024 .f32) (main_arg7 : FVec F S8192x8 .f32) : IVec S_ 1 :=
  let main_v0 : FVec F S8x1024 .f32 := mulf main_arg1 main_arg1
  let main_cst : FVec F S_ .f32 := constant S_ .f32 0x00000000#32
  let main_v1 : FVec F S8 .f32 := (fun x v => Host.reduceAdd x v reducesTo_S8x1024_S8_d1 h_S_) main_v0 main_cst
  let main_v2 : FVec F S8x1 .f32 := broadcastInDim S8x1 ![0] bcast_S8_S8x1_0 main_v1
  let main_v3 : FVec F S8x1 .f32 := Host.sqrt main_v2
  let main_v4 : FVec F S8x1 .f32 := broadcastInDim S8x1 ![0] bcast_S8_S8x1_0 main_arg2
  let main_v5 : FVec F S8x1024 .f32 := broadcastInDim S8x1024 ![0, 1] bcast_S8x1_S8x1024_0_1 main_v4
  let main_v6 : FVec F S8x1024 .f32 := mulf main_v5 main_arg1
  let main_v7 : FVec F S8x1024 .f32 := broadcastInDim S8x1024 ![0, 1] bcast_S8x1_S8x1024_0_1 main_v3
  let main_v8 : FVec F S8x1024 .f32 := Host.divf main_v6 main_v7
  let main_v9 : FVec F S4x4096x8 .f32 := (fun l r => Host.dotGeneral dot_S4x1024x4096_S8x1024_S4x4096x8_1_1_02_0_n_n none l r) main_arg0 main_v8
  let main_v10 : FVec F S4x8x4096 .f32 := (transpose S4x8x4096 [0, 2, 1] · transposes_S4x4096x8_S4x8x4096_0_2_1) main_v9
  let main_v11 : FVec F S1x8x1 .f32 := broadcastInDim S1x8x1 ![1] bcast_S8_S1x8x1_1 main_arg3
  let main_v12 : FVec F S4x8x4096 .f32 := broadcastInDim S4x8x4096 ![0, 1, 2] bcast_S1x8x1_S4x8x4096_0_1_2 main_v11
  let main_v13 : FVec F S4x8x4096 .f32 := addf main_v10 main_v12
  let main_v14 : FVec F S4x4096x8 .f32 := (transpose S4x4096x8 [0, 2, 1] · transposes_S4x8x4096_S4x4096x8_0_2_1) main_v13
  let main_v15 : FVec F S16384x8 .f32 := shapeCast S16384x8 main_v14 shapeCasts_S4x4096x8_S16384x8
  let main_v16 : FVec F S16384x1 .f32 := fn_norm (F := F) main_v15
  let main_cst_0 : FVec F S_ .f32 := constant S_ .f32 0x2B8CBCCC#32
  let main_v17 : FVec F S16384x1 .f32 := broadcastInDim S16384x1 ![] bcast_S_S16384x1 main_cst_0
  let main_v18 : FVec F S16384x1 .f32 := maximumf main_v16 main_v17
  let main_v19 : FVec F S16384x8 .f32 := broadcastInDim S16384x8 ![0, 1] bcast_S16384x1_S16384x8_0_1 main_v18
  let main_v20 : FVec F S16384x8 .f32 := Host.divf main_v15 main_v19
  let main_v21 : FVec F S8192x1 .f32 := fn_norm_0 (F := F) main_arg7
  fn_part1 (F := F) main_arg7 main_v13 main_v20 main_v21
-- ==== KernelIdeal.lean ====
abbrev S4x1024x4096 : Shape := ⟨3, ![4, 1024, 4096]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S8192x8 : Shape := ⟨2, ![8192, 8]⟩
abbrev S8x1 : Shape := ⟨2, ![8, 1]⟩
abbrev S_ : Shape := ⟨0, ![]⟩
abbrev S1024x1 : Shape := ⟨2, ![1024, 1]⟩
abbrev S8192 : Shape := ⟨1, ![8192]⟩
abbrev S8192x1 : Shape := ⟨2, ![8192, 1]⟩
abbrev S1x8192 : Shape := ⟨2, ![1, 8192]⟩
abbrev S8x8192 : Shape := ⟨2, ![8, 8192]⟩
abbrev S4x8x4096 : Shape := ⟨3, ![4, 8, 4096]⟩
abbrev S4x1x4096 : Shape := ⟨3, ![4, 1, 4096]⟩
abbrev S1x1024x512 : Shape := ⟨3, ![1, 1024, 512]⟩
abbrev S1x8x512 : Shape := ⟨3, ![1, 8, 512]⟩
abbrev S1x1x512 : Shape := ⟨3, ![1, 1, 512]⟩
abbrev S1024x512 : Shape := ⟨2, ![1024, 512]⟩
abbrev S8x512 : Shape := ⟨2, ![8, 512]⟩
abbrev S512x8 : Shape := ⟨2, ![512, 8]⟩
abbrev S512 : Shape := ⟨1, ![512]⟩
abbrev S512x1 : Shape := ⟨2, ![512, 1]⟩
abbrev S512x8192 : Shape := ⟨2, ![512, 8192]⟩
abbrev S512x4096 : Shape := ⟨2, ![512, 4096]⟩
abbrev S4x4096 : Shape := ⟨2, ![4, 4096]⟩
abbrev S8192x120 : Shape := ⟨2, ![8192, 120]⟩
abbrev S8192x128 : Shape := ⟨2, ![8192, 128]⟩
abbrev S1x16384 : Shape := ⟨2, ![1, 16384]⟩
abbrev S16384x128 : Shape := ⟨2, ![16384, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S4x4096x128 : Shape := ⟨3, ![4, 4096, 128]⟩
abbrev S1x512x128 : Shape := ⟨3, ![1, 512, 128]⟩
abbrev S512x128 : Shape := ⟨2, ![512, 128]⟩
abbrev S4 : Shape := ⟨1, ![4]⟩

abbrev nBuf : Table → Nat
  | .hbm => 59
  | .local .tc .vmem => 16
  | .local .scVector .vmem => 2
  | _ => 0

abbrev bufTy : (tb : Table) → Fin (nBuf tb) → BufTy
  | .hbm, ⟨0, _⟩ => ⟨S4x1024x4096, .f32⟩
  | .hbm, ⟨1, _⟩ => ⟨S8x1024, .f32⟩
  | .hbm, ⟨2, _⟩ => ⟨S8, .f32⟩
  | .hbm, ⟨3, _⟩ => ⟨S8, .f32⟩
  | .hbm, ⟨4, _⟩ => ⟨S1024x8, .f32⟩
  | .hbm, ⟨5, _⟩ => ⟨S1024, .f32⟩
  | .hbm, ⟨6, _⟩ => ⟨S1024, .f32⟩
  | .hbm, ⟨7, _⟩ => ⟨S8192x8, .f32⟩
  | .hbm, ⟨8, _⟩ => ⟨S8x1, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8, .f32⟩
  | .hbm, ⟨14, _⟩ => ⟨S8x1, .f32⟩
  | .hbm, ⟨15, _⟩ => ⟨S8x1, .f32⟩
  | .hbm, ⟨16, _⟩ => ⟨S8x1024, .f32⟩
  | .hbm, ⟨17, _⟩ => ⟨S8x1024, .f32⟩
  | .hbm, ⟨18, _⟩ => ⟨S1024x1, .f32⟩
  | .hbm, ⟨19, _⟩ => ⟨S1024x8, .f32⟩
  | .hbm, ⟨20, _⟩ => ⟨S1024x8, .f32⟩
  | .hbm, ⟨21, _⟩ => ⟨S1024x8, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x8, .f32⟩
  | .hbm, ⟨27, _⟩ => ⟨S1024x8, .f32⟩
  | .hbm, ⟨28, _⟩ => ⟨S8192x8, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x8, .f32⟩
  | .hbm, ⟨37, _⟩ => ⟨S8192x8, .f32⟩
  | .hbm, ⟨38, _⟩ => ⟨S8192x8, .f32⟩
  | .hbm, ⟨39, _⟩ => ⟨S_, .f32⟩
  | .hbm, ⟨40, _⟩ => ⟨S8192, .f32⟩
  | .hbm, ⟨41, _⟩ => ⟨S1x8192, .f32⟩
  | .hbm, ⟨42, _⟩ => ⟨S8x1, .f32⟩
  | .hbm, ⟨43, _⟩ => ⟨S8x8192, .f32⟩
  | .hbm, ⟨44, _⟩ => ⟨S4x8x4096, .f32⟩
  | .hbm, ⟨45, _⟩ => ⟨S4x1x4096, .i32⟩
  | .hbm, ⟨46, _⟩ => ⟨S4x4096, .i32⟩
  | .hbm, ⟨47, _⟩ => ⟨S_, .f32⟩
  | .hbm, ⟨48, _⟩ => ⟨S8192x120, .f32⟩
  | .hbm, ⟨49, _⟩ => ⟨S8192x128, .f32⟩
  | .hbm, ⟨50, _⟩ => ⟨S1x16384, .i32⟩
  | .hbm, ⟨51, _⟩ => ⟨S16384x128, .f32⟩
  | .hbm, ⟨52, _⟩ => ⟨S4x4096x128, .f32⟩
  | .hbm, ⟨53, _⟩ => ⟨S1024x1, .f32⟩
  | .hbm, ⟨54, _⟩ => ⟨S4x1024x4096, .f32⟩
  | .hbm, ⟨55, _⟩ => ⟨S_, .f32⟩
  | .hbm, ⟨56, _⟩ => ⟨S4, .f32⟩
  | .hbm, ⟨57, _⟩ => ⟨S_, .f32⟩
  | .hbm, ⟨58, _⟩ => ⟨S4, .f32⟩
  | .local .tc .vmem, ⟨0, _⟩ => ⟨S1x1024x512, .f32⟩
  | .local .tc .vmem, ⟨1, _⟩ => ⟨S1x1024x512, .f32⟩
  | .local .tc .vmem, ⟨2, _⟩ => ⟨S8x1024, .f32⟩
  | .local .tc .vmem, ⟨3, _⟩ => ⟨S8x1, .f32⟩
  | .local .tc .vmem, ⟨4, _⟩ => ⟨S8x8192, .f32⟩
  | .local .tc .vmem, ⟨5, _⟩ => ⟨S1x8192, .f32⟩
  | .local .tc .vmem, ⟨6, _⟩ => ⟨S1x8x512, .f32⟩
  | .local .tc .vmem, ⟨7, _⟩ => ⟨S1x8x512, .f32⟩
  | .local .tc .vmem, ⟨8, _⟩ => ⟨S1x1x512, .i32⟩
  | .local .tc .vmem, ⟨9, _⟩ => ⟨S1x1x512, .i32⟩
  | .local .tc .vmem, ⟨10, _⟩ => ⟨S1x512x128, .f32⟩
  | .local .tc .vmem, ⟨11, _⟩ => ⟨S1x512x128, .f32⟩
  | .local .tc .vmem, ⟨12, _⟩ => ⟨S1024x8, .f32⟩
  | .local .tc .vmem, ⟨13, _⟩ => ⟨S1024x1, .f32⟩
  | .local .tc .vmem, ⟨14, _⟩ => ⟨S1x1024x512, .f32⟩
  | .local .tc .vmem, ⟨15, _⟩ => ⟨S1x1024x512, .f32⟩
  | .local .scVector .vmem, ⟨0, _⟩ => ⟨S2x1x256, .i32⟩
  | .local .scVector .vmem, ⟨1, _⟩ => ⟨S2x256x128, .f32⟩
  | _, _ => ⟨S4x1024x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v31_scv : Ref sig .scVector := ⟨.hbm, 49, rfl⟩
abbrev main_v32_scv : Ref sig .scVector := ⟨.hbm, 50, rfl⟩
abbrev main_v33_scv : Ref sig .scVector := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 16], ![false, false]⟩

def k1_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k1_off2 (i : grid1.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k1_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k1_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k1_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k1_t1
  let c1_i32_70_r0 : BitVec 32 := 1#32
  let v83_r0 : BitVec 1 := Scalar.cmpi .sge arg5_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k1_off5 (i : grid1.Coords) (arg10_r0 : BitVec 32) : Fin 2 → Nat :=
  let c0_i32_105_r0 : BitVec 32 := 0#32
  let c256_i32_102_r0 : BitVec 32 := 256#32
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v145_r0 : BitVec 32 := Scalar.muli c256_i32_102_r0 v76_r0
  ![0, v145_r0.toNat]
def k1_off6 (arg6_r0 : BitVec 32) : Fin 1 → Nat :=
  let c2_i32_101_r0 : BitVec 32 := 2#32
  let v144_r0 : BitVec 32 := Scalar.remui arg6_r0 c2_i32_101_r0
  ![v144_r0.toNat]
def k1_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k1_t1
  let c0_i32_56_r0 : BitVec 32 := 0#32
  let v64_r0 : BitVec 1 := Scalar.cmpi .eq arg5_r0 c0_i32_56_r0
  let v97_r0 : BitVec 1 := Scalar.ori v96_r0 v64_r0
  let c0_i32_78_r0 : BitVec 32 := 0#32
  let v98_r0 : BitVec 1 := Scalar.cmpi .sge arg5_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k1_off8 (i : grid1.Coords) (arg10_r0 : BitVec 32) : Fin 2 → Nat :=
  let c0_i32_105_r0 : BitVec 32 := 0#32
  let c256_i32_101_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v144_r0 : BitVec 32 := Scalar.muli c256_i32_101_r0 v66_r0
  ![0, v144_r0.toNat]
def k1_off9 (arg7_r0 : BitVec 32) : Fin 1 → Nat :=
  let c2_i32_102_r0 : BitVec 32 := 2#32
  let v145_r0 : BitVec 32 := Scalar.remui arg7_r0 c2_i32_102_r0
  ![v145_r0.toNat]
def k1_off10 (arg8_r0 : BitVec 32) : Fin 3 → Nat :=
  let c2_i32_83_r0 : BitVec 32 := 2#32
  let v109_r0 : BitVec 32 := Scalar.remui arg8_r0 c2_i32_83_r0
  let c0_i32_101_r1 : BitVec 32 := 0#32
  let c0_i32_102_r1 : BitVec 32 := 0#32
  ![v109_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 3 → Nat :=
  let c2_i32_82_r0 : BitVec 32 := 2#32
  let v108_r0 : BitVec 32 := Scalar.remui arg7_r0 c2_i32_82_r0
  let c0_i32_103_r1 : BitVec 32 := 0#32
  let c0_i32_104_r1 : BitVec 32 := 0#32
  ![v108_r0.toNat, 0, 0]

def k1_chk3 (arg7_r0 : BitVec 32) : Prop :=
  (∀ a, (k1_off11 arg7_r0) a + S1x1x256.size a ≤ S2x1x256.size a)
theorem k1_off11_inb : ∀ (arg7_r0 : BitVec 32) (k1_hw3 : k1_chk3 arg7_r0), ∀ a, (k1_off11 arg7_r0) a + S1x1x256.size a ≤ S2x1x256.size a := fun arg7_r0 k1_hw3 => k1_hw3

def k1_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v115_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k1_t1
  let c1_i32_57_r0 : BitVec 32 := 1#32
  let v65_r0 : BitVec 1 := Scalar.cmpi .eq arg5_r0 c1_i32_57_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k1_off13 (i : grid1.Coords) (arg10_r0 : BitVec 32) : Fin 2 → Nat :=
  let c256_i32_102_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v145_r0 : BitVec 32 := Scalar.muli c256_i32_102_r0 v66_r0
  let c0_i32_105_r0 : BitVec 32 := 0#32
  ![v145_r0.toNat, 0]
def k1_off14 (arg8_r0 : BitVec 32) : Fin 1 → Nat :=
  let c2_i32_101_r0 : BitVec 32 := 2#32
  let v144_r0 : BitVec 32 := Scalar.remui arg8_r0 c2_i32_101_r0
  ![v144_r0.toNat]
def k1_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v128_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k1_t1
  let c0_i32_56_r0 : BitVec 32 := 0#32
  let v64_r0 : BitVec 1 := Scalar.cmpi .eq arg5_r0 c0_i32_56_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k1_off16 (i : grid1.Coords) (arg10_r0 : BitVec 32) : Fin 2 → Nat :=
  let c256_i32_102_r0 : BitVec 32 := 256#32
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v145_r0 : BitVec 32 := Scalar.muli c256_i32_102_r0 v71_r0
  let c0_i32_105_r0 : BitVec 32 := 0#32
  ![v145_r0.toNat, 0]
def k1_off17 (arg9_r0 : BitVec 32) : Fin 1 → Nat :=
  let c2_i32_101_r0 : BitVec 32 := 2#32
  let v144_r0 : BitVec 32 := Scalar.remui arg9_r0 c2_i32_101_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x256.size a ≤ S2x1x256.size a) ∧
  (∀ (k1_h1 : k1_cond1 i k1_t1 arg10_r0 = 1#1), ∀ a, (k1_off5 i arg10_r0) a + S1x256.size a ≤ S1x16384.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x256.size a ≤ S2x1x256.size a) ∧
  (∀ (k1_h2 : k1_cond2 i k1_t1 arg10_r0 = 1#1), ∀ a, (k1_off8 i arg10_r0) a + S1x256.size a ≤ S1x16384.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S16384x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S16384x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x256.size a ≤ S2x1x256.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x256.size a ≤ S1x16384.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x256.size a ≤ S2x1x256.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x256.size a ≤ S1x16384.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S16384x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S16384x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k1_off19 (i : grid1.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k1_chk5 (i : grid1.Coords) (v33_4_r0 : BitVec 32) : Prop :=
  (∀ a, (k1_off19 i v33_4_r0) a + S256x128.size a ≤ S16384x128.size a)
theorem k1_off19_inb : ∀ (i : grid1.Coords) (v33_4_r0 : BitVec 32) (k1_hw5 : k1_chk5 i v33_4_r0), ∀ a, (k1_off19 i v33_4_r0) a + S256x128.size a ≤ S16384x128.size a := fun i v33_4_r0 k1_hw5 => k1_hw5

def k1_off20 (v33_3_r0 : BitVec 32) : Fin 1 → Nat :=
  let c2_i32_48_r0 : BitVec 32 := 2#32
  let v54_r0 : BitVec 32 := Scalar.remui v33_3_r0 c2_i32_48_r0
  ![v54_r0.toNat]
def k1_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x4096 : Shape := ⟨3, ![4, 1024, 4096]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S8192x8 : Shape := ⟨2, ![8192, 8]⟩
abbrev S_ : Shape := ⟨0, ![]⟩
abbrev S8x1 : Shape := ⟨2, ![8, 1]⟩
abbrev S4x4096x8 : Shape := ⟨3, ![4, 4096, 8]⟩
abbrev S4x8x4096 : Shape := ⟨3, ![4, 8, 4096]⟩
abbrev S1x8x1 : Shape := ⟨3, ![1, 8, 1]⟩
abbrev S16384x8 : Shape := ⟨2, ![16384, 8]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S8x8192 : Shape := ⟨2, ![8, 8192]⟩
abbrev S16384x8192 : Shape := ⟨2, ![16384, 8192]⟩
abbrev S1x8192 : Shape := ⟨2, ![1, 8192]⟩
abbrev S4x4096 : Shape := ⟨2, ![4, 4096]⟩
abbrev S4x4096x1 : Shape := ⟨3, ![4, 4096, 1]⟩
abbrev S1 : Shape := ⟨1, ![1]⟩
abbrev S1x1x1 : Shape := ⟨3, ![1, 1, 1]⟩
abbrev S4 : Shape := ⟨1, ![4]⟩
abbrev S1024x1 : Shape := ⟨2, ![1024, 1]⟩
abbrev S4x4096x1024 : Shape := ⟨3, ![4, 4096, 1024]⟩
abbrev S1x1024x1 : Shape := ⟨3, ![1, 1024, 1]⟩

abbrev nBuf : Space → Nat
  | .hbm => 114
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S8x1024, .f32⟩
  | .hbm, ⟨2, _⟩ => ⟨S8, .f32⟩
  | .hbm, ⟨3, _⟩ => ⟨S8, .f32⟩
  | .hbm, ⟨4, _⟩ => ⟨S1024x8, .f32⟩
  | .hbm, ⟨5, _⟩ => ⟨S1024, .f32⟩
  | .hbm, ⟨6, _⟩ => ⟨S1024, .f32⟩
  | .hbm, ⟨7, _⟩ => ⟨S8192x8, .f32⟩
  | .hbm, ⟨8, _⟩ => ⟨S8x1024, .f32⟩
  | .hbm, ⟨9, _⟩ => ⟨S_, .f32⟩
  | .hbm, ⟨10, _⟩ => ⟨S8, .f32⟩
  | .hbm, ⟨11, _⟩ => ⟨S8x1, .f32⟩
  | .hbm, ⟨12, _⟩ => ⟨S8x1, .f32⟩
  | .hbm, ⟨13, _⟩ => ⟨S8x1, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S4x4096x8, .f32⟩
  | .hbm, ⟨19, _⟩ => ⟨S4x8x4096, .f32⟩
  | .hbm, ⟨20, _⟩ => ⟨S1x8x1, .f32⟩
  | .hbm, ⟨21, _⟩ => ⟨S4x8x4096, .f32⟩
  | .hbm, ⟨22, _⟩ => ⟨S4x8x4096, .f32⟩
  | .hbm, ⟨23, _⟩ => ⟨S4x4096x8, .f32⟩
  | .hbm, ⟨24, _⟩ => ⟨S16384x8, .f32⟩
  | .hbm, ⟨25, _⟩ => ⟨S16384x8, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x8, .f32⟩
  | .hbm, ⟨34, _⟩ => ⟨S16384x8, .f32⟩
  | .hbm, ⟨35, _⟩ => ⟨S8192x8, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x8, .f32⟩
  | .hbm, ⟨44, _⟩ => ⟨S8192x8, .f32⟩
  | .hbm, ⟨45, _⟩ => ⟨S16384x8, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x8, .f32⟩
  | .hbm, ⟨51, _⟩ => ⟨S16384x8, .f32⟩
  | .hbm, ⟨52, _⟩ => ⟨S8x8192, .f32⟩
  | .hbm, ⟨53, _⟩ => ⟨S16384x8192, .f32⟩
  | .hbm, ⟨54, _⟩ => ⟨S16384x8192, .f32⟩
  | .hbm, ⟨55, _⟩ => ⟨S16384x8192, .f32⟩
  | .hbm, ⟨56, _⟩ => ⟨S8192x8, .f32⟩
  | .hbm, ⟨57, _⟩ => ⟨S_, .f32⟩
  | .hbm, ⟨58, _⟩ => ⟨S8192, .f32⟩
  | .hbm, ⟨59, _⟩ => ⟨S1x8192, .f32⟩
  | .hbm, ⟨60, _⟩ => ⟨S16384x8192, .f32⟩
  | .hbm, ⟨61, _⟩ => ⟨S16384x8192, .f32⟩
  | .hbm, ⟨62, _⟩ => ⟨S16384x8192, .f32⟩
  | .hbm, ⟨63, _⟩ => ⟨S16384x8192, .i32⟩
  | .hbm, ⟨64, _⟩ => ⟨S_, .f32⟩
  | .hbm, ⟨65, _⟩ => ⟨S_, .i32⟩
  | .hbm, ⟨66, _⟩ => ⟨S16384, .f32⟩
  | .hbm, ⟨67, _⟩ => ⟨S16384, .i32⟩
  | .hbm, ⟨68, _⟩ => ⟨S4x4096, .i32⟩
  | .hbm, ⟨69, _⟩ => ⟨S_, .i32⟩
  | .hbm, ⟨70, _⟩ => ⟨S4x4096, .i32⟩
  | .hbm, ⟨71, _⟩ => ⟨S4x4096, .i1⟩
  | .hbm, ⟨72, _⟩ => ⟨S_, .i32⟩
  | .hbm, ⟨73, _⟩ => ⟨S4x4096, .i32⟩
  | .hbm, ⟨74, _⟩ => ⟨S4x4096, .i32⟩
  | .hbm, ⟨75, _⟩ => ⟨S4x4096, .i32⟩
  | .hbm, ⟨76, _⟩ => ⟨S4x4096x1, .i32⟩
  | .hbm, ⟨77, _⟩ => ⟨S1, .i32⟩
  | .hbm, ⟨78, _⟩ => ⟨S_, .i32⟩
  | .hbm, ⟨79, _⟩ => ⟨S4x4096x1, .i32⟩
  | .hbm, ⟨80, _⟩ => ⟨S4x4096x1, .i1⟩
  | .hbm, ⟨81, _⟩ => ⟨S1x1x1, .i32⟩
  | .hbm, ⟨82, _⟩ => ⟨S4x4096x1, .i32⟩
  | .hbm, ⟨83, _⟩ => ⟨S4x4096x1, .i1⟩
  | .hbm, ⟨84, _⟩ => ⟨S4x4096x1, .i1⟩
  | .hbm, ⟨85, _⟩ => ⟨S_, .i1⟩
  | .hbm, ⟨86, _⟩ => ⟨S4x4096, .i1⟩
  | .hbm, ⟨87, _⟩ => ⟨S4x4096x8, .f32⟩
  | .hbm, ⟨88, _⟩ => ⟨S4x4096x8, .i1⟩
  | .hbm, ⟨89, _⟩ => ⟨S_, .f32⟩
  | .hbm, ⟨90, _⟩ => ⟨S4x4096x8, .f32⟩
  | .hbm, ⟨91, _⟩ => ⟨S4x4096x8, .f32⟩
  | .hbm, ⟨92, _⟩ => ⟨S4x8x4096, .f32⟩
  | .hbm, ⟨93, _⟩ => ⟨S_, .f32⟩
  | .hbm, ⟨94, _⟩ => ⟨S4, .f32⟩
  | .hbm, ⟨95, _⟩ => ⟨S_, .f32⟩
  | .hbm, ⟨96, _⟩ => ⟨S4, .f32⟩
  | .hbm, ⟨97, _⟩ => ⟨S4x8x4096, .f32⟩
  | .hbm, ⟨98, _⟩ => ⟨S4x8x4096, .f32⟩
  | .hbm, ⟨99, _⟩ => ⟨S1024x8, .f32⟩
  | .hbm, ⟨100, _⟩ => ⟨S_, .f32⟩
  | .hbm, ⟨101, _⟩ => ⟨S1024, .f32⟩
  | .hbm, ⟨102, _⟩ => ⟨S1024x1, .f32⟩
  | .hbm, ⟨103, _⟩ => ⟨S1024x1, .f32⟩
  | .hbm, ⟨104, _⟩ => ⟨S1024x1, .f32⟩
  | .hbm, ⟨105, _⟩ => ⟨S1024x8, .f32⟩
  | .hbm, ⟨106, _⟩ => ⟨S1024x8, .f32⟩
  | .hbm, ⟨107, _⟩ => ⟨S1024x8, .f32⟩
  | .hbm, ⟨108, _⟩ => ⟨S1024x8, .f32⟩
  | .hbm, ⟨109, _⟩ => ⟨S4x4096x1024, .f32⟩
  | .hbm, ⟨110, _⟩ => ⟨S4x1024x4096, .f32⟩
  | .hbm, ⟨111, _⟩ => ⟨S1x1024x1, .f32⟩
  | .hbm, ⟨112, _⟩ => ⟨S4x1024x4096, .f32⟩
  | .hbm, ⟨113, _⟩ => ⟨S4x1024x4096, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_call1_v2 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call2_v0 : Ref sig .tc := ⟨.hbm, 63, rfl⟩
abbrev main_call2_cst : Ref sig .tc := ⟨.hbm, 64, rfl⟩
abbrev main_call2_c : Ref sig .tc := ⟨.hbm, 65, rfl⟩
abbrev main_call2_v1_0 : Ref sig .tc := ⟨.hbm, 66, rfl⟩
abbrev main_v41 : Ref sig .tc := ⟨.hbm, 67, rfl⟩
abbrev main_v42 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_call3_cst : Ref sig .tc := ⟨.hbm, 89, rfl⟩
abbrev main_call3_v15 : Ref sig .tc := ⟨.hbm, 90, rfl⟩
abbrev main_v43 : Ref sig .tc := ⟨.hbm, 91, rfl⟩
abbrev main_v44 : Ref sig .tc := ⟨.hbm, 92, rfl⟩
abbrev main_cst_5 : Ref sig .tc := ⟨.hbm, 93, rfl⟩
abbrev main_v45 : Ref sig .tc := ⟨.hbm, 94, rfl⟩
abbrev main_cst_6 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_7 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩

abbrev nD : Nat := 1
abbrev τ : Topo := Topo.v7x

variable {F : FTy → Type} [FloatOps F]
-- ==== Proof.Base.lean ====
/-
  What every module about the whole kernel shares: the program as the launch theorem sees it, the resource algebra of
  its handshakes and copies, and the names of the buffers the SparseCore call uses.
-/
module

public import proofs.«01_k».proof.Defs
public import Idealize.ShloMosaic.Lib.SparseCore.Quiescent
public import Idealize.ShloMosaic.Lib.SparseCore.Ops
public import Idealize.ShloMosaic.Lib.ValueLayout
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.Vq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

section Program

variable [FloatOps F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Program

/-! ## The resource algebra: the handshakes' rounds, the pipelines' rounds, the copies' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL

/-- The rounds of the two TensorCore pipelines' staging cells. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F)).LandsIn (upEmb : UEmb _ (MT nD τ sig (HIx 1) (Elt F) ℕ UU ℕ)) := by unfold EP; infer_instance

/-! ## The buffers of the SparseCore call -/

/-- The padded codebook, -/
abbrev xLoc (d : Dev nD) : Loc nD τ sig := (SparseCore.T d).loc main_v31
/-- the row of entry numbers -/
abbrev iLoc (d : Dev nD) : Loc nD τ sig := (SparseCore.T d).loc main_v32
/-- and the gathered rows. -/
abbrev oLoc (d : Dev nD) : Loc nD τ sig := (SparseCore.T d).loc main_v33

abbrev xV : Memref sig .scVector .hbm S8192x128 .f32 := Memref.whole main_v31_scv
abbrev iV : Memref sig .scVector .hbm S1x16384 .i32 := Memref.whole main_v32_scv
abbrev oV : Memref sig .scVector .hbm S16384x128 .f32 := Memref.whole main_v33_scv
/-- A tile's two staging slots for entry numbers, -/
abbrev aV : Memref sig .scVector .vmem S2x1x256 .i32 := Memref.whole cc1_scoped0
/-- and for rows. -/
abbrev bV : Memref sig .scVector .vmem S2x256x128 .f32 := Memref.whole cc1_scoped2

end Cert.Proof.Vq

end
-- ==== Proof.Bodies.lean ====
/-
  The two TensorCore kernels' bodies, run once over any staging buffers: each reads its input blocks whole, leaves them
  as they were, and leaves in its output blocks what the printed body computes from them.
-/
module

public import proofs.«01_k».proof.Proof.Base
public import Idealize.ShloMosaic.Lib.VecWindow
public import Idealize.ShloMosaic.Lib.WritesUnit

@[expose] public section

set_option maxRecDepth 16384

noncomputable section

namespace Cert.Proof.Vq

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A store over all of a view leaves in it what was stored. -/
theorem read_store {sp : Space} {s : Shape} {e : EltTy} (v : View sig .tc sp s e) (f : v.ty.Contents (Elt F))
    (off : Fin s.rank → ℕ) (inb : ∀ a, off a + s.size a ≤ s.size a) (w : s.Idx → Elt F e) :
    v.read (Elt F) (v.writes (Elt F) f [⟨Rect.unit off s.size inb, w⟩]) = w := by
  funext y
  exact View.read_writes_cons_unit_of_mem v f inb w [] y y rfl fun a => by have := inb a; omega

/-- The decode kernel's body: the output block is the printed value of the three input blocks. -/
theorem decode_run (c : Dev nD) (i : grid2.Coords)
    (M0 : Memref sig .tc .vmem S1x512x128 .f32) (h0 : M0.IsWhole) (M1 : Memref sig .tc .vmem S1024x8 .f32) (h1 : M1.IsWhole)
    (M2 : Memref sig .tc .vmem S1024x1 .f32) (h2 : M2.IsWhole) (M3 : Memref sig .tc .vmem S1x1024x512 .f32) (h3 : M3.IsWhole)
    (x0 : S1x512x128.Idx → Elt F .f32) (x1 : S1024x8.Idx → Elt F .f32) (x2 : S1024x1.Idx → Elt F .f32) (Q : PUnit.{1} → sProp 𝕄) :
    iprop(owns (c : Thread nD τ) M0 fullShare x0 ∗ owns (c : Thread nD τ) M1 fullShare x1 ∗ owns (c : Thread nD τ) M2 fullShare x2
        ∗ (∃ y, owns (c : Thread nD τ) M3 fullShare y)
        ∗ (iprop(owns (c : Thread nD τ) M0 fullShare x0 ∗ owns (c : Thread nD τ) M1 fullShare x1 ∗ owns (c : Thread nD τ) M2 fullShare x2
            ∗ owns (c : Thread nD τ) M3 fullShare (k2_pay1 x0 x1 x2)) -∗ Q ⟨⟩))
      ⊢ wp frame (wpE (defs₀ (F := F)) 𝒱₀ (c : Thread nD τ) none) Set.univ (cc2__decode_body i M0 h0 M1 h1 M2 h2 M3 h3) Q := by
  simp only [cc2__decode_body_eq_skeleton]; unfold cc2__decode_body_skel
  unfold owns
  iintro ⟨⟨%f0, %e0, H0⟩, ⟨%f1, %e1, H1⟩, ⟨%f2, %e2, H2⟩, ⟨%y, %f3, -, H3⟩, Hk⟩
  sl_exec
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  iexists _; isplitr; swap; (· iexact H3); ipureintro
  refine (read_store _ _ _ _ _).trans ?_
  rw [← e0, ← e1, ← e2]
  exact congr (congr (congrArg k2_pay1 (View.readAt_full M0.view f0 _)) (View.readAt_full M1.view f1 _)) (View.readAt_full M2.view f2 _)

/-- The indices the encode kernel's body leaves, from its five input blocks. -/
abbrev encIdx (x0 : S1x1024x512.Idx → Elt F .f32) (x1 : S8x1024.Idx → Elt F .f32) (x2 : S8x1.Idx → Elt F .f32)
    (x3 : S8x8192.Idx → Elt F .f32) (x4 : S1x8192.Idx → Elt F .f32) : S1x1x512.Idx → Elt F .i32 :=
  k0_pay1 (k0_pay4 x0 x1 x2 x3 x4) (k0_pay5 x0 x1 x2 x3 x4)

/-- The encode kernel's body: the latents' block and the indices' block are the printed values of the input blocks. -/
theorem encode_run (c : Dev nD) (i : grid0.Coords)
    (M0 : Memref sig .tc .vmem S1x1024x512 .f32) (h0 : M0.IsWhole) (M1 : Memref sig .tc .vmem S8x1024 .f32) (h1 : M1.IsWhole)
    (M2 : Memref sig .tc .vmem S8x1 .f32) (h2 : M2.IsWhole) (M3 : Memref sig .tc .vmem S8x8192 .f32) (h3 : M3.IsWhole)
    (M4 : Memref sig .tc .vmem S1x8192 .f32) (h4 : M4.IsWhole)
    (M5 : Memref sig .tc .vmem S1x8x512 .f32) (h5 : M5.IsWhole) (M6 : Memref sig .tc .vmem S1x1x512 .i32) (h6 : M6.IsWhole)
    (x0 : S1x1024x512.Idx → Elt F .f32) (x1 : S8x1024.Idx → Elt F .f32) (x2 : S8x1.Idx → Elt F .f32)
    (x3 : S8x8192.Idx → Elt F .f32) (x4 : S1x8192.Idx → Elt F .f32) (Q : PUnit.{1} → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4
        ∗ (∃ y, owns (c : Thread nD τ) M5 fullShare y) ∗ (∃ y, owns (c : Thread nD τ) M6 fullShare y)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4
            ∗ owns (c : Thread nD τ) M5 fullShare (k0_pay3 x0 x1 x2)
            ∗ owns (c : Thread nD τ) M6 fullShare (encIdx x0 x1 x2 x3 x4)) -∗ Q ⟨⟩))
      ⊢ wp frame (wpE (defs₀ (F := F)) 𝒱₀ (c : Thread nD τ) none) Set.univ
          (cc0__encode_body i M0 h0 M1 h1 M2 h2 M3 h3 M4 h4 M5 h5 M6 h6) Q := by
  simp only [cc0__encode_body_eq_skeleton]; unfold cc0__encode_body_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%y5, %f5, -, H5⟩, ⟨%y6, %f6, -, H6⟩, Hk⟩
  sl_exec
  sl_step
  iapply Hk
  have r0 := View.readAt_full M0.view f0 (off := ![0, 0, 0]) inb_S1x1024x512_S1x1024x512_0_0_0
  have r1 := View.readAt_full M1.view f1 (off := ![0, 0]) inb_S8x1024_S8x1024_0_0
  have r2 := View.readAt_full M2.view f2 (off := ![0, 0]) inb_S8x1_S8x1_0_0
  have r3 := View.readAt_full M3.view f3 (off := ![0, 0]) inb_S8x8192_S8x8192_0_0
  have r4 := View.readAt_full M4.view f4 (off := ![0, 0]) inb_S1x8192_S1x8192_0_0
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]
  · iexists _; isplitr; swap; (· iexact H5); ipureintro
    refine (read_store _ _ _ _ _).trans ?_
    rw [← e0, ← e1, ← e2]
    exact congr (congr (congrArg k0_pay3 r0) r1) r2
  iexists _; isplitr; swap; (· iexact H6); ipureintro
  refine (read_store _ _ _ _ _).trans ?_
  rw [← e0, ← e1, ← e2, ← e3, ← e4, ← r0, ← r1, ← r2, ← r3, ← r4]

end Cert.Proof.Vq

end
-- ==== Proof.Pay.lean ====
/-
  The TensorCore bodies' payloads over the extended reals, read at an index, and the nearest codeword.
-/
module

public import proofs.«01_k».proof.Proof.Bodies
public import Idealize.ShloMosaic.Lib.Pointwise

@[expose] public section

set_option maxRecDepth 16384

noncomputable section

namespace Cert.Proof.Vq

open Cert.KernelIdeal Cert.KernelIdeal.Gen
open Idealize.ShloMosaic

/-- The guard of a norm, as both programs write it. -/
def eps : EReal := Ideal.ofBits .f32 730643660#32

/-- A column's norm, guarded from below. -/
def nrm (e : Fin 8 → EReal) : EReal := max (Ideal.sqrt (∑ x, e x * e x)) eps

/-- The squared distance of the normalised column `e` to the codeword `k`, expanded. -/
def dst (e : Fin 8 → EReal) (cbn : Fin 8 → Fin 8192 → EReal) (cbs : Fin 8192 → EReal) (k : Fin 8192) : EReal :=
  (∑ x, Ideal.div (e x) (nrm e) * Ideal.div (e x) (nrm e))
    - Ideal.ofBits .f32 0x40000000#32 * (∑ x, Ideal.div (e x) (nrm e) * cbn x k) + cbs k

/-- `n` is the first index at which `f` is least. -/
def IsNear {N : Nat} (f : Fin N → EReal) (n : Fin N) : Prop := ∀ j, f n ≤ f j ∧ (j < n → f n < f j)

theorem IsNear.unique {N : Nat} {f : Fin N → EReal} {n m : Fin N} (hn : IsNear f n) (hm : IsNear f m) : n = m := by
  rcases lt_trichotomy n m with h | h | h
  · exact absurd ((hm n).2 h) (not_lt.mpr (hn m).1)
  · exact h
  · exact absurd ((hn m).2 h) (not_lt.mpr (hm n).1)

theorem pay3_at (x0 : FVec Ideal S1x1024x512 .f32) (x1 : FVec Ideal S8x1024 .f32) (x2 : FVec Ideal S8x1 .f32) (a : Fin 1) (d : Fin 8) (t : Fin 512) :
    k0_pay3 (F := Ideal) x0 x1 x2 (ix3 a d t) = (∑ i : Fin 1024, x1 (ix2 d i) * x0 (ix3 0 i t)) + x2 (ix2 d 0) := by
  pointwise [k0_pay3, k0_pay2]

theorem pay2_at (x0 : FVec Ideal S1x1024x512 .f32) (x1 : FVec Ideal S8x1024 .f32) (x2 : FVec Ideal S8x1 .f32) (d : Fin 8) (t : Fin 512) :
    k0_pay2 (F := Ideal) x0 x1 x2 (ix2 d t) = (∑ i : Fin 1024, x1 (ix2 d i) * x0 (ix3 0 i t)) + x2 (ix2 d 0) := by
  pointwise [k0_pay2]

theorem pay4_at (x0 : FVec Ideal S1x1024x512 .f32) (x1 : FVec Ideal S8x1024 .f32) (x2 : FVec Ideal S8x1 .f32) (x3 : FVec Ideal S8x8192 .f32) (x4 : FVec Ideal S1x8192 .f32) (t : Fin 512) (k : Fin 8192) :
    k0_pay4 (F := Ideal) x0 x1 x2 x3 x4 (ix2 t k)
      = dst (fun d => k0_pay2 (F := Ideal) x0 x1 x2 (ix2 d t)) (fun d k => x3 (ix2 d k)) (fun k => x4 (ix2 0 k)) k := by
  pointwise [k0_pay4, dst, nrm, eps]

theorem pay5_at (x0 : FVec Ideal S1x1024x512 .f32) (x1 : FVec Ideal S8x1024 .f32) (x2 : FVec Ideal S8x1 .f32) (x3 : FVec Ideal S8x8192 .f32) (x4 : FVec Ideal S1x8192 .f32) (t : Fin 512) (k : Fin 4096) :
    k0_pay5 (F := Ideal) x0 x1 x2 x3 x4 (ix2 t k) = k0_pay4 (F := Ideal) x0 x1 x2 x3 x4 (ix2 t ⟨k, by omega⟩) := by
  pointwise [k0_pay5]

theorem pay21_at (x0 : FVec Ideal S1x512x128 .f32) (x1 : FVec Ideal S1024x8 .f32) (x2 : FVec Ideal S1024x1 .f32) (a : Fin 1) (o : Fin 1024) (t : Fin 512) :
    k2_pay1 (F := Ideal) x0 x1 x2 (ix3 a o t) = (∑ d : Fin 8, x1 (ix2 o d) * x0 (ix3 0 t ⟨d, by omega⟩)) + x2 (ix2 o 0) := by
  pointwise [k2_pay1]

/-- The least coordinate at which a row is least: a coordinate, and the first least one. -/
theorem redIdx_near (v : FVec Ideal S512x4096 .f32) (t : Fin 512) :
    ∃ k : Fin 4096, Ideal.reduceIndex .argMin (1 : Fin S512x4096.rank) (t := S512) reduces_S512x4096_S512 v (ix1 t) = BitVec.ofNat 32 k.val
      ∧ IsNear (fun j => v (ix2 t j)) k := by
  classical
  have hdrop : ∀ i : S512x4096.Idx, reduces_S512x4096_S512.drop i = ix1 t ↔ i 0 = t := by
    intro i
    have h0 : ((reduces_S512x4096_S512.drop i) 0 : Nat) = i 0 :=
      Shape.Reduces.drop_apply_val_of_eq (s := S512x4096) (t := S512) reduces_S512x4096_S512 i 0 0
    constructor
    · intro h
      rw [h] at h0
      exact Fin.ext h0.symm
    · intro h
      funext b
      have hb : b = 0 := Subsingleton.elim (α := Fin 1) b 0
      subst hb
      exact Fin.ext (by rw [h0, h]; rfl)
  have hix : ∀ i : S512x4096.Idx, i 0 = t → i = ix2 t (i 1) := by
    intro i h
    funext b
    fin_cases b
    · exact h
    · rfl
  have hb : ∀ a b : EReal, (if ArgKind.argMin = ArgKind.argMax then b < a else a < b) = (a < b) := fun a b => if_neg (by decide)
  obtain ⟨m, -, hm⟩ := Finset.exists_min_image (Finset.univ : Finset (Fin 4096)) (fun j => v (ix2 t j)) ⟨0, Finset.mem_univ _⟩
  let E : Finset (Fin 4096) := Finset.univ.filter fun k => ∀ j, v (ix2 t k) ≤ v (ix2 t j)
  have hE : E.Nonempty := ⟨m, by simp only [E, Finset.mem_filter, Finset.mem_univ, true_and]; intro j; exact hm j (Finset.mem_univ _)⟩
  let k := E.min' hE
  have hk : k ∈ E := E.min'_mem hE
  have hk' : ∀ j, v (ix2 t k) ≤ v (ix2 t j) := (Finset.mem_filter.mp hk).2
  refine ⟨k, ?_, fun j => ⟨hk' j, fun hj => ?_⟩⟩
  · unfold Ideal.reduceIndex
    simp only []
    congr 1
    have hmin : ((Finset.filter (fun i : S512x4096.Idx => ∀ i' ∈ Finset.filter (fun i : S512x4096.Idx => reduces_S512x4096_S512.drop i = ix1 t) Finset.univ, ¬ (if ArgKind.argMin = ArgKind.argMax then v i < v i' else v i' < v i))
          (Finset.filter (fun i : S512x4096.Idx => reduces_S512x4096_S512.drop i = ix1 t) Finset.univ)).image fun i => (i 1).val).min = ((k.val : ℕ) : WithTop ℕ) := by
      apply le_antisymm
      · apply Finset.min_le
        rw [Finset.mem_image]
        refine ⟨ix2 t k, ?_, rfl⟩
        rw [Finset.mem_filter, Finset.mem_filter]
        refine ⟨⟨Finset.mem_univ _, (hdrop _).mpr rfl⟩, fun i' hi' => ?_⟩
        have := (hdrop i').mp (Finset.mem_filter.mp hi').2
        rw [hix i' this]
        rw [hb]
        exact not_lt.mpr (hk' _)
      · apply Finset.le_min
        intro a ha
        rw [Finset.mem_image] at ha
        obtain ⟨i, hi, rfl⟩ := ha
        rw [Finset.mem_filter, Finset.mem_filter] at hi
        have h0 := (hdrop i).mp hi.1.2
        have hin : i 1 ∈ E := by
          refine Finset.mem_filter.mpr ⟨Finset.mem_univ _, fun j => ?_⟩
          have := hi.2 (ix2 t j) (Finset.mem_filter.mpr ⟨Finset.mem_univ _, (hdrop _).mpr rfl⟩)
          rw [hb] at this
          exact le_of_eq_of_le (congrArg v (hix i h0).symm) (not_lt.mp this)
        exact WithTop.coe_le_coe.mpr (Fin.le_def.mp (E.min'_le _ hin))
    exact (congrArg (fun o : WithTop ℕ => Option.getD o 0) (by convert hmin)).trans rfl
  · rcases lt_or_ge (v (ix2 t k)) (v (ix2 t j)) with h | h
    · exact h
    · have : j ∈ E := by
        simp only [E, Finset.mem_filter, Finset.mem_univ, true_and]
        intro l
        exact le_trans h (hk' l)
      exact absurd (E.min'_le _ this) (not_le.mpr hj)

theorem fold_min_near {f : Fin 4096 → EReal} {k : Fin 4096} (h : IsNear f k) :
    Finset.fold min (Ideal.ofBits .f32 0x7F800000#32) f Finset.univ = f k := by
  have htop : Ideal.ofBits .f32 0x7F800000#32 = ⊤ := by simp [Ideal.ofBits, Ideal.ieee]
  rw [htop]
  apply le_antisymm
  · exact (Finset.fold_min_le _).mpr (Or.inr ⟨k, Finset.mem_univ _, le_refl _⟩)
  · exact Finset.le_fold_min _ |>.mpr ⟨le_top, fun j _ => (h j).1⟩

/-- The word of a row's choice between its two halves: the nearest of all. -/
theorem pay1_near (v34 : FVec Ideal S512x8192 .f32) (v35 : FVec Ideal S512x4096 .f32)
    (hv : ∀ (t : Fin 512) (k : Fin 4096), v35 (ix2 t k) = v34 (ix2 t ⟨k, by omega⟩)) (a b : Fin 1) (t : Fin 512) :
    ∃ k : Fin 8192, k0_pay1 (F := Ideal) v34 v35 (ix3 a b t) = BitVec.ofNat 32 k.val ∧ IsNear (fun j => v34 (ix2 t j)) k := by
  have hp : k0_pay1 (F := Ideal) v34 v35 (ix3 a b t) =
      if Finset.fold min (Ideal.ofBits .f32 0x7F800000#32) (fun x : Fin 4096 => v34 (ix2 t ⟨4096 + x.val, by omega⟩)) Finset.univ
          < Finset.fold min (Ideal.ofBits .f32 0x7F800000#32) (fun x : Fin 4096 => v35 (ix2 t x)) Finset.univ
      then IntOp.addi (Ideal.reduceIndex .argMin (1 : Fin S512x4096.rank) (t := S512) reduces_S512x4096_S512 (extractStridedSlice S512x4096 ![0, 4096] v34 (by decide)) (ix1 t)) 4096#32
      else IntOp.addi (Ideal.reduceIndex .argMin (1 : Fin S512x4096.rank) (t := S512) reduces_S512x4096_S512 v35 (ix1 t)) 0#32 := by
    pointwise [k0_pay1]
    rfl
  obtain ⟨k1, e1, n1⟩ := redIdx_near (extractStridedSlice S512x4096 ![0, 4096] v34 (by decide)) t
  obtain ⟨k0, e0, n0⟩ := redIdx_near v35 t
  have hs : (fun j : Fin 4096 => extractStridedSlice S512x4096 ![0, 4096] v34 (by decide) (ix2 t j)) = fun x : Fin 4096 => v34 (ix2 t ⟨4096 + x.val, by omega⟩) := by
    funext j
    pointwise []
  rw [hs] at n1
  rw [hp, e1, e0, fold_min_near n1, fold_min_near n0]
  simp only [hv] at n0 ⊢
  split
  · rename_i hlt
    refine ⟨⟨4096 + k1.val, by omega⟩, ?_, fun j => ?_⟩
    · simp only [IntOp.addi]
      apply BitVec.eq_of_toNat_eq
      simp
      omega
    · rcases lt_or_ge j.val 4096 with hj | hj
      · have := n0 ⟨j.val, hj⟩
        exact ⟨(lt_of_lt_of_le hlt this.1).le, fun _ => lt_of_lt_of_le hlt this.1⟩
      · have := n1 ⟨j.val - 4096, by omega⟩
        have e : (⟨4096 + (j.val - 4096), by omega⟩ : Fin 8192) = j := Fin.ext (by simp; omega)
        simp only [e] at this
        exact ⟨this.1, fun h => this.2 (Fin.lt_def.mpr (by have := Fin.lt_def.mp h; simp at this ⊢; omega))⟩
  · rename_i hlt
    rw [not_lt] at hlt
    refine ⟨⟨k0.val, by omega⟩, ?_, fun j => ?_⟩
    · simp [IntOp.addi]
    · rcases lt_or_ge j.val 4096 with hj | hj
      · have := n0 ⟨j.val, hj⟩
        exact ⟨this.1, fun h => this.2 (Fin.lt_def.mpr (Fin.lt_def.mp h))⟩
      · have := n1 ⟨j.val - 4096, by omega⟩
        have e : (⟨4096 + (j.val - 4096), by omega⟩ : Fin 8192) = j := Fin.ext (by simp; omega)
        simp only [e] at this
        exact ⟨le_trans hlt this.1, fun h => absurd (Fin.lt_def.mp h) (by simp; omega)⟩

end Cert.Proof.Vq

end
-- ==== Proof.Regions.lean ====
/-
  The two TensorCore calls as regions of the program, entered from every unscoped buffer at a valuation and left at that
  valuation with the call's results written: their proof data, their body obligations, and the region records.
-/
module

public import proofs.«01_k».proof.Proof.Bodies
public import Idealize.ShloMosaic.Lib.Pipeline.RegionsLoop

@[expose] public section

set_option maxRecDepth 16384

noncomputable section

namespace Cert.Proof.Vq

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The proof data -/

/-- What the TensorCore's waits may have recorded once it has gone through `n` SparseCore calls. -/
def recd (c : Dev nD) (n : ℕ) : Set (SemLoc sig × HIx 1) := {p | (K (F := F)).lev (T c, p.1) p.2 ≤ 8 * n}

variable (V : Dev nD → Valuation τ sig (Elt F))

/-- A block of the encode call's window `w` as the arrays stand at the entry. -/
abbrev blkE (c : Dev nD) (w : Fin 7) (t : Fin cfg0.N) : ((cfg0.win w).xblock (cfg0.grid.coords t)).Idx → Elt F (cfg0.win w).elt :=
  ((cfg0.win w).blk t).view.read (Elt F) (V c (Pipeline.arrRef spec0 w))
abbrev blkD (c : Dev nD) (w : Fin 4) (t : Fin cfg2.N) : ((cfg2.win w).xblock (cfg2.grid.coords t)).Idx → Elt F (cfg2.win w).elt :=
  ((cfg2.win w).blk t).view.read (Elt F) (V c (Pipeline.arrRef spec2 w))

def datE (n : ℕ) (c : Dev nD) : Dat τ (Elt F) (HIx 1) ℕ UU ℕ cfg0 c where
  A w := V c (Pipeline.arrRef spec0 w)
  after w t := match w with
    | ⟨0, _⟩ => blkE V c 0 t
    | ⟨1, _⟩ => blkE V c 1 t
    | ⟨2, _⟩ => blkE V c 2 t
    | ⟨3, _⟩ => blkE V c 3 t
    | ⟨4, _⟩ => blkE V c 4 t
    | ⟨5, _⟩ => k0_pay3 (blkE V c 0 t) (blkE V c 1 t) (blkE V c 2 t)
    | ⟨6, _⟩ => encIdx (blkE V c 0 t) (blkE V c 1 t) (blkE V c 2 t) (blkE V c 3 t) (blkE V c 4 t)
  Φ _ := Pipeline.scopedRest (Ix := HIx 1) (Name := ℕ) (U := UU) (Lvl := ℕ) (Val := Elt F) spec0 c
  q _ := fullShare
  owed _ := (K (F := F)).Otc c n
  recorded _ := recd (F := F) c n

def datD (n : ℕ) (c : Dev nD) : Dat τ (Elt F) (HIx 1) ℕ UU ℕ cfg2 c where
  A w := V c (Pipeline.arrRef spec2 w)
  after w t := match w with
    | ⟨0, _⟩ => blkD V c 0 t
    | ⟨1, _⟩ => blkD V c 1 t
    | ⟨2, _⟩ => blkD V c 2 t
    | ⟨3, _⟩ => k2_pay1 (blkD V c 0 t) (blkD V c 1 t) (blkD V c 2 t)
  Φ _ := Pipeline.scopedRest (Ix := HIx 1) (Name := ℕ) (U := UU) (Lvl := ℕ) (Val := Elt F) spec2 c
  q _ := fullShare
  owed _ := (K (F := F)).Otc c n
  recorded _ := recd (F := F) c n

/-- Neither pipeline prefetches a table. -/
abbrev adm : (p : Fin 2) → (pcfgs (F := F) p).Adm := fun q => (cfgs q).toPCfg_adm

/-- The family over the two pipelines, at one entry. -/
def pdats (n : ℕ) : (p : Fin 2) → (c : Dev nD) → Dat τ (Elt F) (HIx 1) ℕ UU ℕ (Pipeline.pin (pcfgs (F := F)) adm p) c
  | ⟨0, _⟩ => fun c => datE V n c
  | ⟨1, _⟩ => fun c => datD V n c

/-! ## The body obligations -/

theorem bodyE (n : ℕ) (c : Dev nD) : BodyObligation (datE V n c) (defs₀ (F := F)) 𝒱₀ none Set.univ := fun t => by
  rw [bigSep_W0, bigSep_W0]
  have b0 := fun d => (datE V n c).before_in_eq_fetched 0 rfl (fun _ => rfl) (fun _ _ _ => rfl) (fun _ => rfl) t d
  have b1 := fun d => (datE V n c).before_in_eq_fetched 1 rfl (fun _ => rfl) (fun _ _ _ => rfl) (fun _ => rfl) t d
  have b2 := fun d => (datE V n c).before_in_eq_fetched 2 rfl (fun _ => rfl) (fun _ _ _ => rfl) (fun _ => rfl) t d
  have b3 := fun d => (datE V n c).before_in_eq_fetched 3 rfl (fun _ => rfl) (fun _ _ _ => rfl) (fun _ => rfl) t d
  have b4 := fun d => (datE V n c).before_in_eq_fetched 4 rfl (fun _ => rfl) (fun _ _ _ => rfl) (fun _ => rfl) t d
  iintro ⟨HΦ, Howes, ⟨%d0, H0⟩, ⟨%d1, H1⟩, ⟨%d2, H2⟩, ⟨%d3, H3⟩, ⟨%d4, H4⟩, ⟨%d5, H5⟩, ⟨%d6, H6⟩⟩
  rw [b0 d0, b1 d1, b2 d2, b3 d3, b4 d4]
  iapply (encode_run (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (blkE V c 0 t) (blkE V c 1 t) (blkE V c 2 t) (blkE V c 3 t) (blkE V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · unfold datE; iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

theorem bodyD (n : ℕ) (c : Dev nD) : BodyObligation (datD V n c) (defs₀ (F := F)) 𝒱₀ none Set.univ := fun t => by
  rw [bigSep_W2, bigSep_W2]
  have b0 := fun d => (datD V n c).before_in_eq_fetched 0 rfl (fun _ => rfl) (fun _ _ _ => rfl) (fun _ => rfl) t d
  have b1 := fun d => (datD V n c).before_in_eq_fetched 1 rfl (fun _ => rfl) (fun _ _ _ => rfl) (fun _ => rfl) t d
  have b2 := fun d => (datD V n c).before_in_eq_fetched 2 rfl (fun _ => rfl) (fun _ _ _ => rfl) (fun _ => rfl) t d
  iintro ⟨HΦ, Howes, ⟨%d0, H0⟩, ⟨%d1, H1⟩, ⟨%d2, H2⟩, ⟨%d3, H3⟩⟩
  rw [b0 d0, b1 d1, b2 d2]
  iapply (decode_run (F := F) c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3))
    (blkD V c 0 t) (blkD V c 1 t) (blkD V c 2 t) _)
  isplitl [H0]; · iexact H0
  isplitl [H1]; · iexact H1
  isplitl [H2]; · iexact H2
  isplitl [H3]; · iexists _; iexact H3
  iintro ⟨H0, H1, H2, H3⟩
  isplitl [HΦ]; · unfold datD; iexact HΦ
  isplitl [Howes]; · iexact Howes
  isplitl [H0]; · iexact H0
  isplitl [H1]; · iexact H1
  isplitl [H2]; · iexact H2
  iexact H3

/-! ## The region records -/

/-- The TensorCore's unscoped references. -/
def ucRefs : Finset (DevRef τ sig) := (StableHlo.tcRefs τ sig).filter fun b => ¬ b.isScoped

/-- Every unscoped buffer at a valuation, as the host's operations hold them. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- What the TensorCore owes of its handshakes, before call `n`. -/
abbrev dues (c : Dev nD) (n : ℕ) : sProp 𝕄 :=
  iprop(∃ W, ⌜(K (F := F)).WBelow (T c) W (8 * n)⌝ ∗ owes (T c) ((K (F := F)).Otc c n) W)

theorem dues_owesAt {cfg : Cfg sig Λ₀} (c : Dev nD) (n : ℕ) (dat : Dat τ (Elt F) (HIx 1) ℕ UU ℕ cfg c) (t : Fin (cfg.N + 1))
    (ho : dat.owed t = (K (F := F)).Otc c n) (hr : dat.recorded t = recd (F := F) c n) :
    dues (F := F) c n ⊢ dat.owesAt none t := by
  unfold Pipeline.Dat.owesAt Pipeline.owesWithin Pipeline.Dat.bound
  rw [ho, hr]
  iintro ⟨%W, %hW, HO⟩; iexists W; isplitr; · ipureintro; exact fun p hp => Or.inl (hW p hp)
  iexact HO

theorem owesAt_dues {cfg : Cfg sig Λ₀} (c : Dev nD) (n : ℕ) (dat : Dat τ (Elt F) (HIx 1) ℕ UU ℕ cfg c) (t : Fin (cfg.N + 1))
    (ho : dat.owed t = (K (F := F)).Otc c n) (hr : dat.recorded t = recd (F := F) c n) :
    dat.owesAt none t ⊢ dues (F := F) c n := by
  unfold Pipeline.Dat.owesAt Pipeline.owesWithin Pipeline.Dat.bound
  rw [ho, hr]
  iintro ⟨%W, %hW, HO⟩; iexists W; isplitr
  · ipureintro
    intro p hp
    rcases hW hp with h | ⟨w, s, rfl⟩
    · exact h
    · exact Nat.zero_le _
  iexact HO

theorem Otc_none (c : Dev nD) (n : ℕ) (g : GSem nD τ sig) : (K (F := F)).Otc (N := 1) c n g none = 0 := by
  by_contra h
  have := SparseCore.Cfg.lev_of_Otc_pos (K := K (F := F)) (Nat.pos_of_ne_zero h)
  exact absurd this (Nat.not_le.2 (Nat.zero_lt_succ _))

set_option backward.isDefEq.respectTransparency.types false in
/-- The encode call, from the valuation `V` to any valuation that has its two results and agrees with `V` off them. -/
def regE (n : ℕ) (Vp : Dev nD → Valuation τ sig (Elt F))
    (h5 : ∀ c, Vp c main_v28_0 = (datE V n c).arrAt 5 cfg0.N) (h6 : ∀ c, Vp c main_v28_1 = (datE V n c).arrAt 6 cfg0.N)
    (hne : ∀ c (b : Ref sig .tc), b ≠ main_v28_0 → b ≠ main_v28_1 → Vp c b = V c b) :
    Pipeline.RegionSeg (pcfgs (F := F)) adm (pdats V n) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (bodyE V n c).loose
  hwaits c := Pipeline.cellsWaits_intro _ _ _ _ _ fun _ _ _ => (K (F := F)).mayWait_none _ (Otc_none c n)
  pre c := iprop(StableHlo.held (c : Thread nD τ) ucRefs (V c) ∗ dues (F := F) c n)
  post c := iprop(StableHlo.held (c : Thread nD τ) ucRefs (Vp c) ∗ dues (F := F) c n)
  X _ := BI.emp
  Y _ := BI.emp
  Z c := Pipeline.unscopedRest (Ix := HIx 1) (Name := ℕ) (U := UU) (Lvl := ℕ) spec0 c (fun b => V c b)
  hentry c := by
    rw [Pipeline.ownSems0_none, ← unscopedBufs_held]
    have hsplit := Pipeline.arrays_of_unscopedBufs (p := 0) (pcfgs (F := F)) adm (pdats V n) launch0.win launch0.arr_whole c
      ((pdats V n 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (dues_owesAt (F := F) c n (datE V n c) 0 rfl rfl); iexact HO
    isplitr; · iempintro
    iexact Hrest
  hin c := by
    rw [show (pdats V n 0 c).Φ 0 = Pipeline.scopedRest spec0 c from rfl]
    iintro ⟨-, -, Hr⟩; iexact Hr
  hout c := by
    rw [Pipeline.ownSems0_none, show (pdats V n 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V n) ((pdats V n 0 c).share_full fun _ => rfl) (fun b => V c b) (fun b => Vp c b) ((pdats V n 0 c).arrAt · cfg0.N)
      (fun w => by
        fin_cases w
        · exact ((pdats V n 0 c).arrAt_in 0 rfl _).trans (hne c main_arg0 (by decide) (by decide)).symm
        · exact ((pdats V n 0 c).arrAt_in 1 rfl _).trans (hne c main_v8 (by decide) (by decide)).symm
        · exact ((pdats V n 0 c).arrAt_in 2 rfl _).trans (hne c main_v26 (by decide) (by decide)).symm
        · exact ((pdats V n 0 c).arrAt_in 3 rfl _).trans (hne c main_v27 (by decide) (by decide)).symm
        · exact ((pdats V n 0 c).arrAt_in 4 rfl _).trans (hne c main_v25 (by decide) (by decide)).symm
        · exact (h5 c).symm
        · exact (h6 c).symm)
      (fun b hb => hne c b (fun h => hb (h ▸ Finset.mem_image.mpr ⟨5, Finset.mem_univ _, rfl⟩)) (fun h => hb (h ▸ Finset.mem_image.mpr ⟨6, Finset.mem_univ _, rfl⟩)))
    rw [← unscopedBufs_held]
    iintro ⟨Ha, HO, -, Hrest⟩
    imodintro
    isplitl [Ha Hrest]
    · iapply hjoin; isplitl [Ha] <;> iassumption
    iapply (owesAt_dues (F := F) c n (datE V n c) (Fin.last _) rfl rfl); iexact HO

set_option backward.isDefEq.respectTransparency.types false in
/-- The decode call, likewise. -/
def regD (n : ℕ) (Vp : Dev nD → Valuation τ sig (Elt F))
    (h3 : ∀ c, Vp c main_v36 = (datD V n c).arrAt 3 cfg2.N)
    (hne : ∀ c (b : Ref sig .tc), b ≠ main_v36 → Vp c b = V c b) :
    Pipeline.RegionSeg (pcfgs (F := F)) adm (pdats V n) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (bodyD V n c).loose
  hwaits c := Pipeline.cellsWaits_intro _ _ _ _ _ fun _ _ _ => (K (F := F)).mayWait_none _ (Otc_none c n)
  pre c := iprop(StableHlo.held (c : Thread nD τ) ucRefs (V c) ∗ dues (F := F) c n)
  post c := iprop(StableHlo.held (c : Thread nD τ) ucRefs (Vp c) ∗ dues (F := F) c n)
  X _ := BI.emp
  Y _ := BI.emp
  Z c := Pipeline.unscopedRest (Ix := HIx 1) (Name := ℕ) (U := UU) (Lvl := ℕ) spec2 c (fun b => V c b)
  hentry c := by
    rw [Pipeline.ownSems0_none, ← unscopedBufs_held]
    have hsplit := Pipeline.arrays_of_unscopedBufs (p := 1) (pcfgs (F := F)) adm (pdats V n) launch2.win launch2.arr_whole c
      ((pdats V n 1 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (dues_owesAt (F := F) c n (datD V n c) 0 rfl rfl); iexact HO
    isplitr; · iempintro
    iexact Hrest
  hin c := by
    rw [show (pdats V n 1 c).Φ 0 = Pipeline.scopedRest spec2 c from rfl]
    iintro ⟨-, -, Hr⟩; iexact Hr
  hout c := by
    rw [Pipeline.ownSems0_none, show (pdats V n 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V n) ((pdats V n 1 c).share_full fun _ => rfl) (fun b => V c b) (fun b => Vp c b) ((pdats V n 1 c).arrAt · cfg2.N)
      (fun w => by
        fin_cases w
        · exact ((pdats V n 1 c).arrAt_in 0 rfl _).trans (hne c main_v34 (by decide)).symm
        · exact ((pdats V n 1 c).arrAt_in 1 rfl _).trans (hne c main_v17 (by decide)).symm
        · exact ((pdats V n 1 c).arrAt_in 2 rfl _).trans (hne c main_v35 (by decide)).symm
        · exact (h3 c).symm)
      (fun b hb => hne c b (fun h => hb (h ▸ Finset.mem_image.mpr ⟨3, Finset.mem_univ _, rfl⟩)))
    rw [← unscopedBufs_held]
    iintro ⟨Ha, HO, -, Hrest⟩
    imodintro
    isplitl [Ha Hrest]
    · iapply hjoin; isplitl [Ha] <;> iassumption
    iapply (owesAt_dues (F := F) c n (datD V n c) (Fin.last _) rfl rfl); iexact HO

end Cert.Proof.Vq

end
-- ==== Proof.Host.lean ====
/-
  The host's part of the program: its lines of operations between the three calls, and the program as those lines and calls.
-/
module

public import proofs.«01_k».proof.Proof.Regions
public import Idealize.ShloMosaic.Lib.StableHlo.RunRead

@[expose] public section

set_option maxRecDepth 16384

noncomputable section

namespace Cert.Proof.Vq

open Cert.KernelIdeal Cert.KernelIdeal.Gen

open Idealize.ShloMosaic Idealize.ShloMosaic.TcCoe
open Idealize.SL.Sem

variable {F : FTy → Type} [FloatOps F]

/-! ## The lines -/

/-- Before the encode call: the two normalised weights, the normalised codebook and its squared norms. -/
def ops1 : List (HloOp τ sig (Elt F)) :=
  [StableHlo.unary main_arg2 main_v0 (broadcastInDim S8x1 ![0] bcast_S8_S8x1_0 : (⟨S8, .f32⟩ : BufTy).Contents (Elt F) → (⟨S8x1, .f32⟩ : BufTy).Contents (Elt F)),
   StableHlo.unary main_v0 main_v1 (broadcastInDim S8x1024 ![0, 1] bcast_S8x1_S8x1024_0_1 : (⟨S8x1, .f32⟩ : BufTy).Contents (Elt F) → (⟨S8x1024, .f32⟩ : BufTy).Contents (Elt F)),
   StableHlo.binary main_v1 main_arg1 main_v2 (mulf : (⟨S8x1024, .f32⟩ : BufTy).Contents (Elt F) → (⟨S8x1024, .f32⟩ : BufTy).Contents (Elt F) → (⟨S8x1024, .f32⟩ : BufTy).Contents (Elt F)),
   StableHlo.binary main_arg1 main_arg1 main_v3 (mulf : (⟨S8x1024, .f32⟩ : BufTy).Contents (Elt F) → (⟨S8x1024, .f32⟩ : BufTy).Contents (Elt F) → (⟨S8x1024, .f32⟩ : BufTy).Contents (Elt F)),
   StableHlo.nullary main_cst (constant S_ .f32 0x00000000#32),
   StableHlo.binary main_v3 main_cst main_v4 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
   StableHlo.unary main_v4 main_v5 (broadcastInDim S8x1 ![0] bcast_S8_S8x1_0 : (⟨S8, .f32⟩ : BufTy).Contents (Elt F) → (⟨S8x1, .f32⟩ : BufTy).Contents (Elt F)),
   StableHlo.unary main_v5 main_v6 (Host.sqrt : (⟨S8x1, .f32⟩ : BufTy).Contents (Elt F) → (⟨S8x1, .f32⟩ : BufTy).Contents (Elt F)),
   StableHlo.unary main_v6 main_v7 (broadcastInDim S8x1024 ![0, 1] bcast_S8x1_S8x1024_0_1 : (⟨S8x1, .f32⟩ : BufTy).Contents (Elt F) → (⟨S8x1024, .f32⟩ : BufTy).Contents (Elt F)),
   StableHlo.binary main_v2 main_v7 main_v8 (Host.divf : (⟨S8x1024, .f32⟩ : BufTy).Contents (Elt F) → (⟨S8x1024, .f32⟩ : BufTy).Contents (Elt F) → (⟨S8x1024, .f32⟩ : BufTy).Contents (Elt F)),
   StableHlo.unary main_arg5 main_v9 (broadcastInDim S1024x1 ![0] bcast_S1024_S1024x1_0 : (⟨S1024, .f32⟩ : BufTy).Contents (Elt F) → (⟨S1024x1, .f32⟩ : BufTy).Contents (Elt F)),
   StableHlo.unary main_v9 main_v10 (broadcastInDim S1024x8 ![0, 1] bcast_S1024x1_S1024x8_0_1 : (⟨S1024x1, .f32⟩ : BufTy).Contents (Elt F) → (⟨S1024x8, .f32⟩ : BufTy).Contents (Elt F)),
   StableHlo.binary main_v10 main_arg4 main_v11 (mulf : (⟨S1024x8, .f32⟩ : BufTy).Contents (Elt F) → (⟨S1024x8, .f32⟩ : BufTy).Contents (Elt F) → (⟨S1024x8, .f32⟩ : BufTy).Contents (Elt F)),
   StableHlo.binary main_arg4 main_arg4 main_v12 (mulf : (⟨S1024x8, .f32⟩ : BufTy).Contents (Elt F) → (⟨S1024x8, .f32⟩ : BufTy).Contents (Elt F) → (⟨S1024x8, .f32⟩ : BufTy).Contents (Elt F)),
   StableHlo.nullary main_cst_0 (constant S_ .f32 0x00000000#32),
   StableHlo.binary main_v12 main_cst_0 main_v13 ((fun x v => Host.reduceAdd x v reducesTo_S1024x8_S1024_d1 h_S_) : (⟨S1024x8, .f32⟩ : BufTy).Contents (Elt F) → (⟨S_, .f32⟩ : BufTy).Contents (Elt F) → (⟨S1024, .f32⟩ : BufTy).Contents (Elt F)),
   StableHlo.unary main_v13 main_v14 (broadcastInDim S1024x1 ![0] bcast_S1024_S1024x1_0 : (⟨S1024, .f32⟩ : BufTy).Contents (Elt F) → (⟨S1024x1, .f32⟩ : BufTy).Contents (Elt F)),
   StableHlo.unary main_v14 main_v15 (Host.sqrt : (⟨S1024x1, .f32⟩ : BufTy).Contents (Elt F) → (⟨S1024x1, .f32⟩ : BufTy).Contents (Elt F)),
   StableHlo.unary main_v15 main_v16 (broadcastInDim S1024x8 ![0, 1] bcast_S1024x1_S1024x8_0_1 : (⟨S1024x1, .f32⟩ : BufTy).Contents (Elt F) → (⟨S1024x8, .f32⟩ : BufTy).Contents (Elt F)),
   StableHlo.binary main_v11 main_v16 main_v17 (Host.divf : (⟨S1024x8, .f32⟩ : BufTy).Contents (Elt F) → (⟨S1024x8, .f32⟩ : BufTy).Contents (Elt F) → (⟨S1024x8, .f32⟩ : BufTy).Contents (Elt F)),
   StableHlo.binary main_arg7 main_arg7 main_call0_v0 (mulf : (⟨S8192x8, .f32⟩ : BufTy).Contents (Elt F) → (⟨S8192x8, .f32⟩ : BufTy).Contents (Elt F) → (⟨S8192x8, .f32⟩ : BufTy).Contents (Elt F)),
   StableHlo.nullary main_call0_cst (constant S_ .f32 0x00000000#32),
   StableHlo.binary main_call0_v0 main_call0_cst main_call0_v1 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
   StableHlo.unary main_call0_v1 main_call0_v2 (broadcastInDim S8192x1 ![0] bcast_S8192_S8192x1_0 : (⟨S8192, .f32⟩ : BufTy).Contents (Elt F) → (⟨S8192x1, .f32⟩ : BufTy).Contents (Elt F)),
   StableHlo.unary main_call0_v2 main_v18 (Host.sqrt : (⟨S8192x1, .f32⟩ : BufTy).Contents (Elt F) → (⟨S8192x1, .f32⟩ : BufTy).Contents (Elt F)),
   StableHlo.nullary main_cst_1 (constant S_ .f32 0x2B8CBCCC#32),
   StableHlo.unary main_cst_1 main_v19 (broadcastInDim S8192x1 ![] bcast_S_S8192x1 : (⟨S_, .f32⟩ : BufTy).Contents (Elt F) → (⟨S8192x1, .f32⟩ : BufTy).Contents (Elt F)),
   StableHlo.binary main_v18 main_v19 main_v20 (maximumf : (⟨S8192x1, .f32⟩ : BufTy).Contents (Elt F) → (⟨S8192x1, .f32⟩ : BufTy).Contents (Elt F) → (⟨S8192x1, .f32⟩ : BufTy).Contents (Elt F)),
   StableHlo.unary main_v20 main_v21 (broadcastInDim S8192x8 ![0, 1] bcast_S8192x1_S8192x8_0_1 : (⟨S8192x1, .f32⟩ : BufTy).Contents (Elt F) → (⟨S8192x8, .f32⟩ : BufTy).Contents (Elt F)),
   StableHlo.binary main_arg7 main_v21 main_v22 (Host.divf : (⟨S8192x8, .f32⟩ : BufTy).Contents (Elt F) → (⟨S8192x8, .f32⟩ : BufTy).Contents (Elt F) → (⟨S8192x8, .f32⟩ : BufTy).Contents (Elt F)),
   StableHlo.binary main_v22 main_v22 main_v23 (mulf : (⟨S8192x8, .f32⟩ : BufTy).Contents (Elt F) → (⟨S8192x8, .f32⟩ : BufTy).Contents (Elt F) → (⟨S8192x8, .f32⟩ : BufTy).Contents (Elt F)),
   StableHlo.nullary main_cst_2 (constant S_ .f32 0x00000000#32),
   StableHlo.binary main_v23 main_cst_2 main_v24 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
   StableHlo.unary main_v24 main_v25 (broadcastInDim S1x8192 ![1] bcast_S8192_S1x8192_1 : (⟨S8192, .f32⟩ : BufTy).Contents (Elt F) → (⟨S1x8192, .f32⟩ : BufTy).Contents (Elt F)),
   StableHlo.unary main_arg3 main_v26 (broadcastInDim S8x1 ![0] bcast_S8_S8x1_0 : (⟨S8, .f32⟩ : BufTy).Contents (Elt F) → (⟨S8x1, .f32⟩ : BufTy).Contents (Elt F)),
   StableHlo.unary main_v22 main_v27 ((transpose S8x8192 [1, 0] · transposes_S8192x8_S8x8192_1_0) : (⟨S8192x8, .f32⟩ : BufTy).Contents (Elt F) → (⟨S8x8192, .f32⟩ : BufTy).Contents (Elt F))]

/-- Between the encode call and the SparseCore call: the indices, the padded codebook. -/
def ops2 : List (HloOp τ sig (Elt F)) :=
  [StableHlo.reshape main_v28_1 main_v29 (rfl : (.i32 : EltTy) = .i32) shapeCasts_S4x1x4096_S4x4096,
   StableHlo.nullary main_cst_3 (constant S_ .f32 0x00000000#32),
   StableHlo.unary main_cst_3 main_v30 (broadcastInDim S8192x120 ![] bcast_S_S8192x120 : (⟨S_, .f32⟩ : BufTy).Contents (Elt F) → (⟨S8192x120, .f32⟩ : BufTy).Contents (Elt F)),
   StableHlo.binary main_arg7 main_v30 main_v31 ((fun a b => concatenate S8192x128 1 [⟨S8192x8, a⟩, ⟨S8192x120, b⟩] concatenates_S8192x8_S8192x120_S8192x128_d1) : (⟨S8192x8, .f32⟩ : BufTy).Contents (Elt F) → (⟨S8192x120, .f32⟩ : BufTy).Contents (Elt F) → (⟨S8192x128, .f32⟩ : BufTy).Contents (Elt F)),
   StableHlo.reshape main_v28_1 main_v32 (rfl : (.i32 : EltTy) = .i32) shapeCasts_S4x1x4096_S1x16384]

/-- Between the SparseCore call and the decode call. -/
def ops3 : List (HloOp τ sig (Elt F)) :=
  [StableHlo.reshape main_v33 main_v34 (rfl : (.f32 : EltTy) = .f32) shapeCasts_S16384x128_S4x4096x128,
   StableHlo.unary main_arg6 main_v35 (broadcastInDim S1024x1 ![0] bcast_S1024_S1024x1_0 : (⟨S1024, .f32⟩ : BufTy).Contents (Elt F) → (⟨S1024x1, .f32⟩ : BufTy).Contents (Elt F))]

/-- After the decode call: the two losses. -/
def ops4 : List (HloOp τ sig (Elt F)) :=
  [StableHlo.nullary main_cst_4 (constant S_ .f32 0x00000000#32),
   StableHlo.unary main_cst_4 main_v37 (broadcastInDim S4 ![] bcast_S_S4 : (⟨S_, .f32⟩ : BufTy).Contents (Elt F) → (⟨S4, .f32⟩ : BufTy).Contents (Elt F)),
   StableHlo.nullary main_cst_5 (constant S_ .f32 0x00000000#32),
   StableHlo.unary main_cst_5 main_v38 (broadcastInDim S4 ![] bcast_S_S4 : (⟨S_, .f32⟩ : BufTy).Contents (Elt F) → (⟨S4, .f32⟩ : BufTy).Contents (Elt F))]

/-! ## Their buffers -/

theorem ops1_sub : ∀ op ∈ (ops1 : List (HloOp τ sig (Elt F))), op.bufs ⊆ ucRefs := by
  unfold ops1
  simp only [List.forall_mem_cons, List.not_mem_nil, false_imp_iff, implies_true, and_true, StableHlo.unary_bufs, StableHlo.binary_bufs, StableHlo.nullary_bufs, StableHlo.reshape_bufs]
  decide +kernel

theorem ops1_fresh : ∀ op ∈ (ops1 : List (HloOp τ sig (Elt F))), op.fresh = ∅ := by
  unfold ops1
  simp only [List.forall_mem_cons, List.not_mem_nil, false_imp_iff, implies_true, and_true]
  refine ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_sub : ∀ op ∈ (ops2 : List (HloOp τ sig (Elt F))), op.bufs ⊆ ucRefs := by
  unfold ops2
  simp only [List.forall_mem_cons, List.not_mem_nil, false_imp_iff, implies_true, and_true, StableHlo.unary_bufs, StableHlo.binary_bufs, StableHlo.nullary_bufs, StableHlo.reshape_bufs]
  decide +kernel

theorem ops2_fresh : ∀ op ∈ (ops2 : List (HloOp τ sig (Elt F))), op.fresh = ∅ := by
  unfold ops2
  simp only [List.forall_mem_cons, List.not_mem_nil, false_imp_iff, implies_true, and_true]
  refine ⟨rfl, rfl, rfl, rfl, rfl⟩

theorem ops3_sub : ∀ op ∈ (ops3 : List (HloOp τ sig (Elt F))), op.bufs ⊆ ucRefs := by
  unfold ops3
  simp only [List.forall_mem_cons, List.not_mem_nil, false_imp_iff, implies_true, and_true, StableHlo.unary_bufs, StableHlo.binary_bufs, StableHlo.nullary_bufs, StableHlo.reshape_bufs]
  decide +kernel

theorem ops3_fresh : ∀ op ∈ (ops3 : List (HloOp τ sig (Elt F))), op.fresh = ∅ := by
  unfold ops3
  simp only [List.forall_mem_cons, List.not_mem_nil, false_imp_iff, implies_true, and_true]
  refine ⟨rfl, rfl⟩

theorem ops4_sub : ∀ op ∈ (ops4 : List (HloOp τ sig (Elt F))), op.bufs ⊆ ucRefs := by
  unfold ops4
  simp only [List.forall_mem_cons, List.not_mem_nil, false_imp_iff, implies_true, and_true, StableHlo.unary_bufs, StableHlo.binary_bufs, StableHlo.nullary_bufs, StableHlo.reshape_bufs]
  decide +kernel

theorem ops4_fresh : ∀ op ∈ (ops4 : List (HloOp τ sig (Elt F))), op.fresh = ∅ := by
  unfold ops4
  simp only [List.forall_mem_cons, List.not_mem_nil, false_imp_iff, implies_true, and_true]
  refine ⟨rfl, rfl, rfl, rfl⟩

/-! ## The program -/

theorem main_eq (d : Dev nD) : (main (F := F) d) =
    (StableHlo.seq ops1 >>= fun _ => Prog.lift (.customCall (SparseCore.inner (Pipeline.entry 0)) ()) >>= fun _ =>
      StableHlo.seq ops2 >>= fun _ => sc.run d 0 >>= fun _ => StableHlo.seq ops3 >>= fun _ =>
      Prog.lift (.customCall (SparseCore.inner (Pipeline.entry 1)) ()) >>= fun _ => StableHlo.seq ops4 >>= fun _ => pure ⟨⟩) := by
  simp only [ops1, ops2, ops3, ops4, StableHlo.seq, bind_assoc, pure_bind]
  rfl

end Cert.Proof.Vq

end
-- ==== Proof.Tile.lean ====
/-
  One tile's task: two windows of 256 entry numbers, each staged, used for one indexed copy of 256 rows of the padded
  codebook, and the rows copied out.
-/
module

public import proofs.«01_k».proof.Proof.Base
public import Idealize.ShloMosaic.Lib.ValueLayout

@[expose] public section

set_option maxRecDepth 16384

noncomputable section

namespace Cert.Proof.Vq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ

section Words

abbrev t0 : Fin k1_t1_loop.trips := ⟨0, by decide⟩
abbrev t1 : Fin k1_t1_loop.trips := ⟨1, by decide⟩

theorem trips_two : k1_t1_loop.trips = 2 := by decide

theorem cond1_0 : ∀ i : grid1.Coords, k1_cond1 i t0 0#32 = 1#1 := by decide +kernel
theorem cond1_1 : ∀ i : grid1.Coords, ¬ k1_cond1 i t1 1#32 = 1#1 := by decide +kernel
theorem cond2_0 : ∀ i : grid1.Coords, k1_cond2 i t0 0#32 = 1#1 := by decide +kernel
theorem cond2_1 : ∀ i : grid1.Coords, k1_cond2 i t1 1#32 = 1#1 := by decide +kernel
theorem cond5_0 : ∀ i : grid1.Coords, k1_cond5 i t0 0#32 = 1#1 := by decide +kernel
theorem cond5_1 : ∀ i : grid1.Coords, k1_cond5 i t1 1#32 = 1#1 := by decide +kernel
theorem cond7_0 : ∀ i : grid1.Coords, ¬ k1_cond7 i t0 0#32 = 1#1 := by decide +kernel
theorem cond7_1 : ∀ i : grid1.Coords, k1_cond7 i t1 1#32 = 1#1 := by decide +kernel

theorem chk3_0 : k1_chk3 0#32 := by decide +kernel
theorem chk3_1 : k1_chk3 1#32 := by decide +kernel
theorem chk2_0 : k1_chk2 0#32 := by decide +kernel
theorem chk2_1 : k1_chk2 1#32 := by decide +kernel
theorem chk1_0 : ∀ i : grid1.Coords, k1_chk1 i t0 1#32 0#32 0#32 0#32 0#32 := by decide +kernel
theorem chk1_1 : ∀ i : grid1.Coords, k1_chk1 i t1 2#32 1#32 1#32 0#32 1#32 := by decide +kernel
theorem chk4_1 : k1_chk4 1#32 := by decide +kernel
theorem chk5_0 : ∀ i : grid1.Coords, k1_chk5 i 0#32 := by decide +kernel

end Words

/-! ## The windows and the slots -/

abbrev csem (k : Nat) (hk : k < 21 := by decide) : DmaSem sig := ⟨k, hk⟩

abbrev cV (L : grid1.Coords) : Fin τ.nSC := (L 0).castLE hcore1
abbrev jV (L : grid1.Coords) : Fin τ.nSub := (L 1).castLE hsub1

/-- The tile's number among the thirty-two. -/
def num (L : grid1.Coords) : ℕ := 16 * (L 0).val + (L 1).val

theorem num_lt (L : grid1.Coords) : num L < 32 := by
  have h0 : (L 0).val < 2 := (L 0).isLt
  have h1 : (L 1).val < 16 := (L 1).isLt
  unfold num; omega

theorem iW_inb (L : grid1.Coords) (t : Fin 2) :
    ∀ a, (![0, 512 * num L + 256 * t.val] : Fin 2 → ℕ) a + S1x256.size a ≤ S1x16384.size a := by
  have := num_lt L; have := t.isLt
  intro a; fin_cases a
  · show 0 + 1 ≤ 1; omega
  · show 512 * num L + 256 * t.val + 256 ≤ 16384; omega

/-- The tile's `t`-th window of the entry numbers, -/
abbrev iW (L : grid1.Coords) (t : Fin 2) : Memref sig .scVector .hbm S1x256 .i32 :=
  iV.slice (Rect.unit (s := S1x16384) ![0, 512 * num L + 256 * t.val] S1x256.size (iW_inb L t)) (fun _ => rfl)

theorem oW_inb (L : grid1.Coords) (t : Fin 2) :
    ∀ a, (![512 * num L + 256 * t.val, 0] : Fin 2 → ℕ) a + S256x128.size a ≤ S16384x128.size a := by
  have := num_lt L; have := t.isLt
  intro a; fin_cases a
  · show 512 * num L + 256 * t.val + 256 ≤ 16384; omega
  · show 0 + 128 ≤ 128; omega

/-- and of the gathered rows. -/
abbrev oW (L : grid1.Coords) (t : Fin 2) : Memref sig .scVector .hbm S256x128 .f32 :=
  oV.slice (Rect.unit (s := S16384x128) ![512 * num L + 256 * t.val, 0] S256x128.size (oW_inb L t)) (fun _ => rfl)

theorem aS_inb (n : Fin 2) : ∀ a, (![n.val, 0, 0] : Fin 3 → ℕ) a + S1x1x256.size a ≤ S2x1x256.size a := by
  revert n; decide

/-- Slot `n` for entry numbers, -/
abbrev aS (n : Fin 2) : Memref sig .scVector .vmem S1x256 .i32 :=
  (aV.slice (Rect.unit (s := S2x1x256) ![n.val, 0, 0] S1x1x256.size (aS_inb n)) (fun _ => rfl)).squeeze S1x256 squeezes_S1x1x256_S1x256

/-- the same slot as the list of an indexed copy, -/
abbrev gI (n : Fin 2) : Memref sig .scVector .vmem S256 .i32 :=
  ((aS n).slice (Rect.unit (s := S1x256) ![0, 0] S1x256.size inb_S1x256_S1x256_0_0) (fun _ => rfl)).squeeze S256 squeezes_S1x256_S256

theorem bS_inb (n : Fin 2) : ∀ a, (![n.val, 0, 0] : Fin 3 → ℕ) a + S1x256x128.size a ≤ S2x256x128.size a := by
  revert n; decide

/-- and slot `n` for rows. -/
abbrev bS (n : Fin 2) : Memref sig .scVector .vmem S256x128 .f32 :=
  (bV.slice (Rect.unit (s := S2x256x128) ![n.val, 0, 0] S1x256x128.size (bS_inb n)) (fun _ => rfl)).squeeze S256x128 squeezes_S1x256x128_S256x128

/-- The padded codebook as the indexed copy's source. -/
abbrev xA : Memref sig .scVector .hbm S8192x128 .f32 :=
  xV.slice (Rect.unit (s := S8192x128) ![0, 0] S8192x128.size inb_S8192x128_S8192x128_0_0) (fun _ => rfl)

theorem iW_eq {L : grid1.Coords} {t : Fin 2} {o : Fin 2 → ℕ} (h : o = ![0, 512 * num L + 256 * t.val]) (hb hs) :
    iV.slice (Rect.unit (s := S1x16384) o S1x256.size hb) hs = iW L t := by subst h; rfl
theorem oW_eq {L : grid1.Coords} {t : Fin 2} {o : Fin 2 → ℕ} (h : o = ![512 * num L + 256 * t.val, 0]) (hb hs) :
    oV.slice (Rect.unit (s := S16384x128) o S256x128.size hb) hs = oW L t := by subst h; rfl
theorem aS_eq {n : Fin 2} {o : Fin 3 → ℕ} (h : o = ![n.val, 0, 0]) (hb hs) :
    (aV.slice (Rect.unit (s := S2x1x256) o S1x1x256.size hb) hs).squeeze S1x256 squeezes_S1x1x256_S1x256 = aS n := by subst h; rfl
theorem bS_eq {n : Fin 2} {o : Fin 3 → ℕ} (h : o = ![n.val, 0, 0]) (hb hs) :
    (bV.slice (Rect.unit (s := S2x256x128) o S1x256x128.size hb) hs).squeeze S256x128 squeezes_S1x256x128_S256x128 = bS n := by subst h; rfl
theorem gI_eq {n : Fin 2} {o : Fin 3 → ℕ} (h : o = ![n.val, 0, 0]) (hb hs hb' hs') :
    (((aV.slice (Rect.unit (s := S2x1x256) o S1x1x256.size hb) hs).squeeze S1x256 squeezes_S1x1x256_S1x256).slice
      (Rect.unit (s := S1x256) ![0, 0] S1x256.size hb') hs').squeeze S256 squeezes_S1x256_S256 = gI n := by subst h; rfl

theorem inSem_eq {n : Fin 2} {o : Fin 1 → ℕ} (h : o = ![n.val]) (hb) :
    ((SemArray.slice cc1_scoped1 (Rect.unit (s := S2) o S1.size hb)).squeeze S_ squeezes_S1_S_).sem = csem (10 + n.val) (by omega) := by
  subst h; revert n; decide
theorem outSem_eq {n : Fin 2} {o : Fin 1 → ℕ} (h : o = ![n.val]) (hb) :
    ((SemArray.slice cc1_scoped3 (Rect.unit (s := S2) o S1.size hb)).squeeze S_ squeezes_S1_S_).sem = csem (12 + n.val) (by omega) := by
  subst h; revert n; decide
theorem gSem_eq : cc1_scoped4.sem = csem 14 := by decide

/-! ## What the buffers come to hold -/

section Contents

variable {d : Dev nD}

/-- The entry a number names. -/
def entry (w : BitVec 32) : Fin 8192 := ⟨w.toNat % 8192, Nat.mod_lt _ (by decide)⟩

/-- The gathered rows: row `r` is the codebook's row the `r`-th number names. -/
def gathered (xB : Buf (Elt F) (xLoc d)) (iB : Buf (Elt F) (iLoc d)) : Buf (Elt F) (oLoc d) :=
  fun (j : S16384x128.Idx) => xB (ix2 (entry (iB (ix2 (0 : Fin 1) (j 0)))) (j 1))

/-- The window row `256·n + r` of a tile. -/
def wrow (L : grid1.Coords) (n : Fin 2) (r : Fin 256) : Fin 16384 :=
  ⟨512 * num L + 256 * n.val + r.val, by have := num_lt L; omega⟩

/-- The slots' entry numbers after the copies in, -/
def slotIx (L : grid1.Coords) (iB : Buf (Elt F) (iLoc d)) : aV.view.ty.Contents (Elt F) :=
  fun (j : S2x1x256.Idx) => iB (ix2 (0 : Fin 1) (wrow L (j 0) (j 2)))

/-- the slots' rows after the indexed copies. -/
def slotRows (L : grid1.Coords) (xB : Buf (Elt F) (xLoc d)) (iB : Buf (Elt F) (iLoc d)) : bV.view.ty.Contents (Elt F) :=
  fun (j : S2x256x128.Idx) => gathered xB iB (ix2 (wrow L (j 0) (j 1)) (j 2))

variable (L : grid1.Coords) (n : Fin 2) (xB : Buf (Elt F) (xLoc d)) (iB : Buf (Elt F) (iLoc d))

theorem aS_emb (x : S1x256.Idx) : (aS n).view.emb x = (ix3 n (0 : Fin 1) (x 1) : S2x1x256.Idx) := by
  have h : Shape.reshapeEquiv squeezes_S1x1x256_S1x256.numel_eq x = (ix3 (0 : Fin 1) (x 0) (x 1) : S1x1x256.Idx) :=
    Shape.reshapeEquiv_eq_of_rowMajor _ (by
      rw [Shape.rowMajor_val_three, Shape.rowMajor_val_two]
      show (0 * 1 + (x 0).val) * 256 + (x 1).val = (x 0).val * 256 + (x 1).val; omega)
  show (Rect.unit (s := S2x1x256) ![n.val, 0, 0] S1x1x256.size (aS_inb n)).emb (Shape.reshapeEquiv squeezes_S1x1x256_S1x256.numel_eq x) = _
  rw [h]
  funext a; apply Fin.ext; rw [Rect.emb_apply]
  fin_cases a
  · show n.val + 1 * 0 = n.val; omega
  · show 0 + 1 * (x 0).val = 0; have : (x 0).val < 1 := (x 0).isLt; omega
  · show 0 + 1 * (x 1).val = (x 1).val; omega

theorem bS_emb (x : S256x128.Idx) : (bS n).view.emb x = (ix3 n (x 0) (x 1) : S2x256x128.Idx) := by
  have h : Shape.reshapeEquiv squeezes_S1x256x128_S256x128.numel_eq x = (ix3 (0 : Fin 1) (x 0) (x 1) : S1x256x128.Idx) :=
    Shape.reshapeEquiv_eq_of_rowMajor _ (by
      rw [Shape.rowMajor_val_three, Shape.rowMajor_val_two]
      show (0 * 256 + (x 0).val) * 128 + (x 1).val = (x 0).val * 128 + (x 1).val; omega)
  show (Rect.unit (s := S2x256x128) ![n.val, 0, 0] S1x256x128.size (bS_inb n)).emb (Shape.reshapeEquiv squeezes_S1x256x128_S256x128.numel_eq x) = _
  rw [h]
  funext a; apply Fin.ext; rw [Rect.emb_apply]
  fin_cases a
  · show n.val + 1 * 0 = n.val; omega
  · show 0 + 1 * (x 0).val = (x 0).val; omega
  · show 0 + 1 * (x 1).val = (x 1).val; omega

theorem gI_emb (x : S256.Idx) : (gI n).view.emb x = (ix3 n (0 : Fin 1) (x 0) : S2x1x256.Idx) := by
  have h : Shape.reshapeEquiv squeezes_S1x256_S256.numel_eq x = (ix2 (0 : Fin 1) (x 0) : S1x256.Idx) :=
    Shape.reshapeEquiv_eq_of_rowMajor _ (by
      rw [Shape.rowMajor_val_two, Shape.rowMajor_val_one]
      show 0 * 256 + (x 0).val = (x 0).val; omega)
  show (aS n).view.emb ((Rect.unit (s := S1x256) ![0, 0] S1x256.size inb_S1x256_S1x256_0_0).emb
    (Shape.reshapeEquiv squeezes_S1x256_S256.numel_eq x)) = _
  rw [h, aS_emb]
  congr 1
  apply Fin.ext
  show 0 + 1 * (x 0).val = (x 0).val; omega

theorem iW_emb (x : S1x256.Idx) : (iW L n).view.emb x = (ix2 (0 : Fin 1) (wrow L n (x 1)) : S1x16384.Idx) := by
  show (Rect.unit (s := S1x16384) ![0, 512 * num L + 256 * n.val] S1x256.size (iW_inb L n)).emb x = _
  funext a; apply Fin.ext; rw [Rect.emb_apply]
  fin_cases a
  · show 0 + 1 * (x 0).val = 0; have : (x 0).val < 1 := (x 0).isLt; omega
  · show 512 * num L + 256 * n.val + 1 * (x 1).val = 512 * num L + 256 * n.val + (x 1).val; omega

theorem oW_emb (x : S256x128.Idx) : (oW L n).view.emb x = (ix2 (wrow L n (x 0)) (x 1) : S16384x128.Idx) := by
  show (Rect.unit (s := S16384x128) ![512 * num L + 256 * n.val, 0] S256x128.size (oW_inb L n)).emb x = _
  funext a; apply Fin.ext; rw [Rect.emb_apply]
  fin_cases a
  · show 512 * num L + 256 * n.val + 1 * (x 0).val = 512 * num L + 256 * n.val + (x 0).val; omega
  · show 0 + 1 * (x 1).val = (x 1).val; omega

theorem xA_emb (x : S8192x128.Idx) : xA.view.emb x = x := by
  show (Rect.unit (s := S8192x128) ![0, 0] S8192x128.size inb_S8192x128_S8192x128_0_0).emb x = x
  funext a; apply Fin.ext; rw [Rect.emb_apply]
  fin_cases a
  · show 0 + 1 * (x 0).val = (x 0).val; omega
  · show 0 + 1 * (x 1).val = (x 1).val; omega

/-- The slot holds the window it was copied from. -/
theorem read_in : (aS n).view.read (Elt F) (slotIx L iB) = (iW L n).view.read (Elt F) iB := by
  funext x
  rw [View.read_apply, View.read_apply, aS_emb, iW_emb]
  rfl

/-- The window holds the slot's rows. -/
theorem read_out : (oW L n).view.read (Elt F) (gathered xB iB) = (bS n).view.read (Elt F) (slotRows L xB iB) := by
  funext x
  rw [View.read_apply, View.read_apply, bS_emb, oW_emb]
  rfl

theorem gI_lt (hi : ∀ j, (iB j : BitVec 32).toNat < 8192) (x : S256.Idx) :
    ((gI n).view.read (Elt F) (slotIx L iB) x : BitVec 32).toNat < S8192x128.size gathers_S8192x128_S256x128.axis := by
  rw [View.read_apply, gI_emb]
  exact hi _

/-- The slot's rows are the indexed copy of the codebook along the slot's numbers. -/
theorem read_gather (hi : ∀ j, (iB j : BitVec 32).toNat < 8192) :
    (bS n).view.read (Elt F) (slotRows L xB iB)
      = SparseCore.gatherPayload gathers_S8192x128_S256x128 (xA.view.read (Elt F) xB)
          (SparseCore.rows ((gI n).view.read (Elt F) (slotIx L iB)) rfl (gI_lt L n iB hi)) := by
  funext x
  rw [View.read_apply, bS_emb]
  unfold SparseCore.gatherPayload
  rw [View.read_apply, xA_emb]
  show xB _ = xB _
  congr 1
  funext a; apply Fin.ext
  fin_cases a
  · rw [show ((fun i => i) ⟨0, by decide⟩ : Fin 2) = gathers_S8192x128_S256x128.axis from rfl, Shape.Gathers.idx_axis]
    have hy (k : Fin 256) : (S256.rowMajor.symm k) 0 = k := by
      apply Fin.ext
      rw [← Shape.rowMajor_val_one]
      exact congrArg Fin.val (Equiv.apply_symm_apply S256.rowMajor k)
    show (iB (ix2 (0 : Fin 1) (wrow L n (x 0))) : BitVec 32).toNat % 8192
      = ((gI n).view.read (Elt F) (slotIx L iB) (S256.rowMajor.symm (x 0)) : BitVec 32).toNat
    rw [View.read_apply, gI_emb, Nat.mod_eq_of_lt (hi _)]
    exact congrArg (fun k : Fin 256 => (iB (ix2 (0 : Fin 1) (wrow L n k)) : BitVec 32).toNat) (hy (x 0)).symm
  · rw [Shape.Gathers.idx_of_ne _ _ _ _ (by decide)]; rfl

end Contents

end Cert.Proof.Vq

end
-- ==== Proof.Trips.lean ====
/-
  The two trips of a subcore's pipeline: the steps over the program's own spelling of a memref, and what each trip leaves.
-/
module

public import proofs.«01_k».proof.Proof.Tile

@[expose] public section

set_option maxRecDepth 16384

noncomputable section

namespace Cert.Proof.Vq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ

/-- The copies' counters. -/
abbrev EC : UEmb Counters 𝕄 := countersEmb

/-! ## The offsets the two trips compute -/

section Offsets

def v4w (i : grid1.Coords) : BitVec 32 :=
  Scalar.muli (Scalar.addi (Scalar.addi 0#32 (Scalar.muli (BitVec.ofNat 32 (i 1).val) 1#32)) (Scalar.muli (BitVec.ofNat 32 (i 0).val) 16#32)) 2#32

theorem o1 : k1_off1 = ![(0 : Fin 2).val, 0, 0] := by decide +kernel
theorem o2 : ∀ i : grid1.Coords, k1_off2 i = ![0, 512 * num i + 256 * (0 : Fin 2).val] := by decide +kernel
theorem o3 : k1_off3 = ![(0 : Fin 2).val] := by decide +kernel
theorem o4_1 : k1_off4 1#32 = ![(1 : Fin 2).val, 0, 0] := by decide +kernel
theorem o5_0 : ∀ i : grid1.Coords, k1_off5 i 0#32 = ![0, 512 * num i + 256 * (1 : Fin 2).val] := by decide +kernel
theorem o6_1 : k1_off6 1#32 = ![(1 : Fin 2).val] := by decide +kernel
theorem o7_0 : k1_off7 0#32 = ![(0 : Fin 2).val, 0, 0] := by decide +kernel
theorem o7_1 : k1_off7 1#32 = ![(1 : Fin 2).val, 0, 0] := by decide +kernel
theorem o9_0 : k1_off9 0#32 = ![(0 : Fin 2).val] := by decide +kernel
theorem o9_1 : k1_off9 1#32 = ![(1 : Fin 2).val] := by decide +kernel
theorem o10_0 : k1_off10 0#32 = ![(0 : Fin 2).val, 0, 0] := by decide +kernel
theorem o10_1 : k1_off10 1#32 = ![(1 : Fin 2).val, 0, 0] := by decide +kernel
theorem o11_0 : k1_off11 0#32 = ![(0 : Fin 2).val, 0, 0] := by decide +kernel
theorem o11_1 : k1_off11 1#32 = ![(1 : Fin 2).val, 0, 0] := by decide +kernel
theorem o12_0 : k1_off12 0#32 = ![(0 : Fin 2).val, 0, 0] := by decide +kernel
theorem o12_1 : k1_off12 1#32 = ![(1 : Fin 2).val, 0, 0] := by decide +kernel
theorem o13_0 : ∀ i : grid1.Coords, k1_off13 i 0#32 = ![512 * num i + 256 * (0 : Fin 2).val, 0] := by decide +kernel
theorem o13_1 : ∀ i : grid1.Coords, k1_off13 i 1#32 = ![512 * num i + 256 * (1 : Fin 2).val, 0] := by decide +kernel
theorem o14_0 : k1_off14 0#32 = ![(0 : Fin 2).val] := by decide +kernel
theorem o14_1 : k1_off14 1#32 = ![(1 : Fin 2).val] := by decide +kernel
theorem o16_1 : ∀ i : grid1.Coords, k1_off16 i 1#32 = ![512 * num i + 256 * (0 : Fin 2).val, 0] := by decide +kernel
theorem o17_0 : k1_off17 0#32 = ![(0 : Fin 2).val] := by decide +kernel
theorem o19_0 : ∀ i : grid1.Coords, k1_off19 i 0#32 = ![512 * num i + 256 * (1 : Fin 2).val, 0] := by decide +kernel
theorem o20_1 : k1_off20 1#32 = ![(1 : Fin 2).val] := by decide +kernel

/-- The counters a trip hands to the next. -/
abbrev nextCounters (v4 : BitVec 32) (t : Fin k1_t1_loop.trips) (a6 a7 a8 a9 a10 : BitVec 32) :
    BitVec 32 × BitVec 32 × BitVec 32 × BitVec 32 × BitVec 32 :=
  let a5 : BitVec 32 := Scf.iv 0#32 1#32 t
  let here : BitVec 32 := Scalar.addi a10 v4
  let down : BitVec 32 := Scalar.select 1#1 (Scalar.subi a10 1#32) a10
  let prev : BitVec 32 := Scalar.addi (Scalar.select (Scalar.cmpi .eq down 4294967295#32) 1#32 down) v4
  let up : BitVec 32 := Scalar.select 1#1 (Scalar.addi a10 1#32) a10
  let wrap : BitVec 32 := Scalar.select (Scalar.cmpi .eq up 2#32) 0#32 up
  let next : BitVec 32 := Scalar.addi wrap v4
  let first : BitVec 1 := Scalar.cmpi .eq a5 0#32
  let last : BitVec 1 := Scalar.cmpi .eq a5 1#32
  (Scalar.select (Scalar.andi (Scalar.andi (Scalar.cmpi .ne here next) (Scalar.xori (Scalar.cmpi .sge a5 1#32) 1#1)) 1#1) (Scalar.addi a6 1#32) a6,
    Scalar.select (Scalar.ori (Scalar.cmpi .ne here next) last) (Scalar.addi a7 1#32) a7,
    Scalar.select (Scalar.andi (Scalar.ori (Scalar.cmpi .ne here next) last) 1#1) (Scalar.addi a8 1#32) a8,
    Scalar.select (Scalar.andi (Scalar.andi (Scalar.cmpi .ne here prev) (Scalar.xori first 1#1)) 1#1) (Scalar.addi a9 1#32) a9,
    wrap)

theorem counters_0 : ∀ i : grid1.Coords, nextCounters (v4w i) t0 1#32 0#32 0#32 0#32 0#32 = (2#32, 1#32, 1#32, 0#32, 1#32) := by decide +kernel
theorem counters_1 : ∀ i : grid1.Coords, nextCounters (v4w i) t1 2#32 1#32 1#32 0#32 1#32 = (2#32, 2#32, 2#32, 1#32, 0#32) := by decide +kernel

end Offsets

/-! ## The steps, over the program's own spelling of a memref -/

section Steps

variable (c : Thread nD τ) {sp sp' : Space} {s : Shape} {e : EltTy}

/-- A window written whole with what it reads of `g` holds `g` on its elements. -/
theorem pts_write (v : View sig c.2.kind sp s e) (fd g : v.ty.Contents (Elt F)) (p : s.Idx → Elt F e) (h : v.read (Elt F) g = p) :
    (v.loc c ↦[v.set]{fullShare} v.write (Elt F) fd p Finset.univ : sProp 𝕄) = v.loc c ↦[v.set]{fullShare} g := by
  subst h
  refine pointsTo_congr fun i hi => ?_
  obtain ⟨x, -, rfl⟩ := Finset.mem_map.mp hi
  rw [View.write_emb_of_mem _ _ (Finset.mem_univ x), View.read_apply, _root_.cast_cast, cast_eq]

/-- What a core owes and the waits it has recorded beyond `W`, every one an ordinary one. -/
def waited (O : CellTallies nD τ sig (HIx 1)) (W : Waits sig (HIx 1)) : sProp 𝕄 :=
  iprop(∃ W', ⌜∀ p ∈ W', p ∈ W ∨ p.2 = none⌝ ∗ owes c O W')

/-- A copy's issue: what it delivers is stated by the contents `g` whose reading at the destination is the source's. -/
theorem copy_step {Q : PUnit.{1} → sProp 𝕄} {src src' : Memref sig c.2.kind sp s e} {dst dst' : Memref sig c.2.kind sp' s e} {sem sem' : DmaSem sig}
    (hs : src = src') (hd : dst = dst') (hsem : sem = sem') (hn : 0 < s.numel)
    {h1 : src.view.WordExact} {h2 : dst.view.WordExact} {h3 : DmaTarget.Typed (nD := nD) sp (.dma sem) (.here dst)}
    {q : PosShare TreeShare} {fs : Buf (Elt F) (src'.view.loc c)} {fd : Buf (Elt F) (dst'.view.loc c)} (g : Buf (Elt F) (dst'.view.loc c))
    (hg : dst'.view.read (Elt F) g = src'.view.read (Elt F) fs) :
    iprop((src'.view.loc c ↦[src'.view.set]{q} fs) ∗ (dst'.view.loc c ↦[dst'.view.set]{fullShare} fd) ∗ semVal (c, SemLoc.dma sem') 0)
      ⊢ iprop((Transfers.Flight (EC (F := F)) c (.dma sem') (none : HIx 1) dst'.view.dmaCredit
                iprop((dst'.view.loc c ↦[dst'.view.set]{fullShare} g) ∗ (src'.view.loc c ↦[src'.view.set]{q} fs))
              -∗ Q ⟨⟩)
          -∗ wp frame (wpE (defs₀ (F := F)) 𝒱₀ c none) Set.univ (Prog.lift (.enqueueDma src (.here dst) (.dma sem) h1 h2 h3)) Q) := by
  subst hs hd hsem

  have key := Transfers.wp_dmaLocal (EC (F := F)) 𝒱₀ c none (Q := Q) (defs := defs₀ (F := F)) (src := src) (via := .same) (dst := dst) (sm := .dma sem) (hsrc := h1) (hdst := h2)
      (hsem := h3) (k := fun a => .ret a) (q := q) (fs := fs) (fd := fd) (none : HIx 1) _ rfl
      (View.amount_pos _ _ hn) (Finset.Subset.refl _)
  rw [pts_write c dst.view fd g _ hg] at key
  refine key.trans (wand_mono (wand_mono .rfl ?_) .rfl)
  rw [wp_ret]; exact fupd_intro

/-- A wait for what is in flight. -/
theorem wait_step {Q : PUnit.{1} → sProp 𝕄} {s₁ : Shape} {e₁ : EltTy} {src : Memref sig c.2.kind sp s₁ e₁} {dst dst' : Memref sig c.2.kind sp' s e} {sem sem' : DmaSem sig}
    (hd : dst = dst') (hsem : sem = sem') {h1 : src.view.WordExact} {h2 : dst.view.WordExact}
    {N : ℕ} (hN : dst'.view.dmaCredit = N) {R : sProp 𝕄} {O : CellTallies nD τ sig (HIx 1)} {W : Waits sig (HIx 1)} :
    iprop(Transfers.MayWaits c (none : HIx 1) O ∗ Transfers.Flight (EC (F := F)) c (.dma sem') (none : HIx 1) N R ∗ waited c O W)
      ⊢ iprop((iprop(R ∗ semVal (c, SemLoc.dma sem') 0 ∗ waited c O W) -∗ Q ⟨⟩)
          -∗ wp frame (wpE (defs₀ (F := F)) 𝒱₀ c none) Set.univ (Prog.lift (.waitDma2 sem src dst h1 h2)) Q) := by
  subst hd hsem
  unfold waited
  iintro ⟨Hmw, Hfl, %W', %hW, HO⟩ Hk
  iapply (Transfers.wp_waitLocalO (EC (F := F)) 𝒱₀ c none (none : HIx 1) hN) $$ [Hmw Hfl HO]
  · isplitl [Hfl]; · iexact Hfl
    isplitl [HO]; · iexact HO
    iapply (Transfers.MayWaits.elim (SemLoc.dma sem)) $$ Hmw
  iintro ⟨HR, Hs, HO⟩
  rw [wp_ret]; imodintro
  iapply Hk
  isplitl [HR]; · iexact HR
  isplitl [Hs]; · iexact Hs
  iexists _; isplitr
  swap; · iexact HO
  ipureintro; intro p hp
  rcases Finset.mem_insert.mp hp with hp | hp; · exact .inr (hp ▸ rfl)
  exact hW p hp

/-- An indexed copy's issue, by the contents `g` whose reading at the destination is the gather. -/
theorem gather_step {Q : PUnit.{1} → sProp 𝕄} {src : Memref sig c.2.kind sp S8192x128 .f32} {dst dst' : Memref sig c.2.kind .vmem S256x128 .f32}
    {offs offs' : Memref sig c.2.kind .vmem S256 .i32} {sem sem' : DmaSem sig} (hd : dst = dst') (ho : offs = offs') (hsem : sem = sem')
    {hp : c.2.kind = .scVector} {h1 : src.view.WordExact} {h2 : EltTy.f32.bits = 32} {h3 : sp = .hbm ∨ sp = .shared} {h4 : S8192x128.StreamRows 0}
    {N : ℕ} (hN : ∑ j, (dst'.slice (S256x128.rowRect gathers_S8192x128_S256x128.axis' j) (S256x128.stride_rowRect gathers_S8192x128_S256x128.axis' j)).view.dmaCredit = N)
    {q : PosShare TreeShare} {fs : Buf (Elt F) (src.view.loc c)} {fd : Buf (Elt F) (dst'.view.loc c)} {fo : Buf (Elt F) (offs'.view.loc c)}
    (hin : ∀ x, (offs'.view.read (Elt F) fo x : BitVec 32).toNat < S8192x128.size gathers_S8192x128_S256x128.axis)
    (g : Buf (Elt F) (dst'.view.loc c))
    (hg : dst'.view.read (Elt F) g = SparseCore.gatherPayload gathers_S8192x128_S256x128 (src.view.read (Elt F) fs)
      (SparseCore.rows (offs'.view.read (Elt F) fo) rfl hin)) :
    iprop((src.view.loc c ↦[src.view.set]{q} fs) ∗ (dst'.view.loc c ↦[dst'.view.set]{fullShare} fd)
        ∗ (offs'.view.loc c ↦[offs'.view.set]{fullShare} fo) ∗ semVal (c, SemLoc.dma sem') 0)
      ⊢ iprop((Transfers.Flight (EC (F := F)) c (.dma sem') (none : HIx 1) N
                iprop((dst'.view.loc c ↦[dst'.view.set]{fullShare} g) ∗ (src.view.loc c ↦[src.view.set]{q} fs)
                  ∗ (offs'.view.loc c ↦[offs'.view.set]{fullShare} fo))
              -∗ Q ⟨⟩)
          -∗ wp frame (wpE (defs₀ (F := F)) 𝒱₀ c none) Set.univ
              (SparseCore.enqueueIndirectGather hp src dst gathers_S8192x128_S256x128 offs rfl sem h1 h2 h3 h4) Q) := by
  subst hd ho hsem
  have key := SparseCore.wp_indirectGatherLocal (EC (F := F)) 𝒱₀ c none (Q := Q) (defs := defs₀ (F := F)) (src := src) (dst := dst) (hg := gathers_S8192x128_S256x128)
      (offs := offs) (hn := rfl) (sem := sem) (hp := hp) (hsrc := h1) (he := h2) (hsp := h3) (hr := h4) (k := fun a => .ret a)
      (q := q) (qo := fullShare) (fs := fs) (fd := fd) (fo := fo) (none : HIx 1) N hN (by decide) hin
  rw [pts_write c dst.view fd g _ hg] at key
  refine key.trans (wand_mono (wand_mono .rfl ?_) .rfl)
  rw [wp_ret]; exact fupd_intro

/-- A checked side condition that holds. -/
theorem assume_step {P : Prop} {dP : Decidable P} {Q : PLift P → sProp 𝕄} (h : P) :
    Q ⟨h⟩ ⊢ wp frame (wpE (defs₀ (F := F)) 𝒱₀ c none) Set.univ (Prog.lift (.assume P dP)) Q := by
  show Q ⟨h⟩ ⊢ wp frame (wpE (defs₀ (F := F)) 𝒱₀ c none) Set.univ (.op (.assume P dP) fun a => .ret a) Q
  rw [wp_assume_of 𝒱₀ c none Set.univ h, wp_ret]; exact fupd_intro

end Steps

/-! ## The two trips -/

section Trips

variable {d : Dev nD} (L : grid1.Coords) (xB : Buf (Elt F) (xLoc d)) (iB : Buf (Elt F) (iLoc d)) (qx : PosShare TreeShare)

abbrev tV (d : Dev nD) (L : grid1.Coords) : Thread nD τ := V d (cV L) (jV L)

/-- A memref's elements at full share, holding `f`. -/
abbrev held (d : Dev nD) (L : grid1.Coords) {sp : Space} {s : Shape} {e : EltTy} (m : Memref sig .scVector sp s e) (f : Buf (Elt F) (m.view.loc (tV d L))) : sProp 𝕄 :=
  m.view.loc (tV d L) ↦[m.view.set]{fullShare} f

/-- The tile's cell `k` at zero. -/
abbrev idle (d : Dev nD) (L : grid1.Coords) (k : Nat) (hk : k < 21 := by decide) : sProp 𝕄 := semVal (tV d L, SemLoc.dma (csem k hk)) 0

/-- A copy in flight on the tile's cell `k`. -/
abbrev flying (d : Dev nD) (L : grid1.Coords) (k : Nat) (hk : k < 21) (N : ℕ) (R : sProp 𝕄) : sProp 𝕄 :=
  Transfers.Flight (EC (F := F)) (tV d L) (.dma (csem k hk)) (none : HIx 1) N R

theorem gather_credit (n : Fin 2) : ∑ j, ((bS n).slice (S256x128.rowRect gathers_S8192x128_S256x128.axis' j)
    (S256x128.stride_rowRect gathers_S8192x128_S256x128.axis' j)).view.dmaCredit = (bS n).view.dmaCredit := by
  revert n; decide +kernel

theorem held_list (n : Fin 2) (f : Buf (Elt F) (aV.view.loc (tV d L))) :
    held d L (aS n) f = held d L (gI n) f := by
  have h : (gI n).view.set = (aS n).view.set := by
    show (((aS n).view.slice (Rect.unit (s := S1x256) ![0, 0] S1x256.size inb_S1x256_S1x256_0_0)).reshape S256 squeezes_S1x256_S256.numel_eq).set = _
    rw [View.set_reshape, View.set_slice, Rect.set_eq_univ_of_whole]
    · rfl
    · intro a; fin_cases a <;> exact ⟨rfl, rfl, rfl⟩
  unfold held; rw [h]

set_option maxHeartbeats 1600000 in
theorem trip0 (hi : ∀ j, (iB j : BitVec 32).toNat < 8192) (O : CellTallies nD τ sig (HIx 1)) (W : Waits sig (HIx 1))
    (fa : Buf (Elt F) (aV.view.loc (tV d L))) (fb : Buf (Elt F) (bV.view.loc (tV d L))) (oB : Buf (Elt F) (oLoc d))
    {Q : BitVec 32 × BitVec 32 × BitVec 32 × BitVec 32 × BitVec 32 → sProp 𝕄} :
    iprop(Transfers.MayWaits (tV d L) (none : HIx 1) O ∗ waited (tV d L) O W
        ∗ flying d L 10 (by decide) (aS 0).view.dmaCredit iprop(held d L (aS 0) (slotIx L iB) ∗ held d L (iW L 0) iB)
        ∗ held d L (iW L 1) iB ∗ held d L (aS 1) fa ∗ idle d L 11
        ∗ (xA.view.loc (tV d L) ↦[xA.view.set]{qx} xB) ∗ held d L (bS 0) fb ∗ idle d L 14
        ∗ held d L (oW L 0) oB ∗ idle d L 12)
      ⊢ iprop((iprop(waited (tV d L) O W ∗ idle d L 10 ∗ held d L (iW L 0) iB ∗ held d L (aS 0) (slotIx L iB)
            ∗ flying d L 11 (by decide) (aS 1).view.dmaCredit iprop(held d L (aS 1) (slotIx L iB) ∗ held d L (iW L 1) iB)
            ∗ (xA.view.loc (tV d L) ↦[xA.view.set]{qx} xB) ∗ idle d L 14
            ∗ flying d L 12 (by decide) (oW L 0).view.dmaCredit iprop(held d L (oW L 0) (gathered xB iB) ∗ held d L (bS 0) (slotRows L xB iB)))
          -∗ Q (2#32, 1#32, 1#32, 0#32, 1#32))
        -∗ wp frame (wpE (defs₀ (F := F)) 𝒱₀ (tV d L) none) Set.univ
          (k1_t1_body L xV (Memref.isWhole_whole _) iV (Memref.isWhole_whole _) oV (Memref.isWhole_whole _)
            aV (Memref.isWhole_whole _) cc1_scoped1 bV (Memref.isWhole_whole _) cc1_scoped3 cc1_scoped4 (v4w L) t0 (1#32, 0#32, 0#32, 0#32, 0#32)) Q) := by
  unfold k1_t1_body
  simp only [k1_part1_eq_skeleton, k1_part2_eq_skeleton]
  unfold k1_part1_skel k1_part2_skel
  simp only [wp_bind, wp_pure, dif_pos (cond1_0 L), dif_pos (cond2_0 L), dif_pos (cond5_0 L), dif_neg (cond7_0 L), ite_self]
  iintro ⟨#Hmw, HO, Hf10, Hi1, Ha1, Hs11, Hx, Hb0, Hs14, Ho0, Hs12⟩ Hk
  iapply (assume_step (tV d L) chk3_0)
  iapply (assume_step (tV d L) chk2_0)
  iapply (assume_step (tV d L) (chk1_0 L))
  iapply (copy_step (tV d L) (iW_eq (o5_0 L) _ _) (aS_eq o4_1 _ _) (inSem_eq o6_1 _) (show 0 < S1x256.numel by decide) (slotIx L iB) (read_in L 1 iB)) $$ [Hi1 Ha1 Hs11]
  · isplitl [Hi1]; · iexact Hi1
    isplitl [Ha1]; · iexact Ha1
    iexact Hs11
  iintro Hf11
  imodintro
  iapply (wait_step (tV d L) (aS_eq o7_0 _ _) (inSem_eq o9_0 _) rfl) $$ [Hmw Hf10 HO]
  · isplitr; · iexact Hmw
    isplitl [Hf10]; · iexact Hf10
    iexact HO
  iintro ⟨⟨Ha0, Hi0⟩, Hs10, HO⟩
  ihave Ha0 := (Entails.of_eq (held_list (F := F) L 0 _)) $$ Ha0
  iapply (gather_step (tV d L) (bS_eq o10_0 _ _) (gI_eq o11_0 _ _ _ _) gSem_eq (gather_credit 0) (gI_lt L 0 iB hi)
    (slotRows L xB iB) (read_gather L 0 xB iB hi)) $$ [Hx Hb0 Ha0 Hs14]
  · isplitl [Hx]; · iexact Hx
    isplitl [Hb0]; · iexact Hb0
    isplitl [Ha0]; · iexact Ha0
    iexact Hs14
  iintro Hf14
  iapply (wait_step (tV d L) (bS_eq o10_0 _ _) gSem_eq rfl) $$ [Hmw Hf14 HO]
  · isplitr; · iexact Hmw
    isplitl [Hf14]; · iexact Hf14
    iexact HO
  iintro ⟨⟨Hb0, Hx, Ha0⟩, Hs14, HO⟩
  ihave Ha0 := (Entails.of_eq (held_list (F := F) L 0 _).symm) $$ Ha0
  imodintro
  iapply (copy_step (tV d L) (bS_eq o12_0 _ _) (oW_eq (o13_0 L) _ _) (outSem_eq o14_0 _) (by decide) (gathered xB iB) (read_out L 0 xB iB)) $$ [Hb0 Ho0 Hs12]
  · isplitl [Hb0]; · iexact Hb0
    isplitl [Ho0]; · iexact Ho0
    iexact Hs12
  iintro Hf12
  imodintro
  iapply (Entails.of_eq (congrArg Q (counters_0 L)).symm)
  iapply Hk
  isplitl [HO]; · iexact HO
  isplitl [Hs10]; · iexact Hs10
  isplitl [Hi0]; · iexact Hi0
  isplitl [Ha0]; · iexact Ha0
  isplitl [Hf11]; · iexact Hf11
  isplitl [Hx]; · iexact Hx
  isplitl [Hs14]; · iexact Hs14
  iexact Hf12

set_option maxHeartbeats 1600000 in
theorem trip1 (hi : ∀ j, (iB j : BitVec 32).toNat < 8192) (O : CellTallies nD τ sig (HIx 1)) (W : Waits sig (HIx 1))
    (fb : Buf (Elt F) (bV.view.loc (tV d L))) (oB : Buf (Elt F) (oLoc d))
    {Q : BitVec 32 × BitVec 32 × BitVec 32 × BitVec 32 × BitVec 32 → sProp 𝕄} :
    iprop(Transfers.MayWaits (tV d L) (none : HIx 1) O ∗ waited (tV d L) O W
        ∗ flying d L 11 (by decide) (aS 1).view.dmaCredit iprop(held d L (aS 1) (slotIx L iB) ∗ held d L (iW L 1) iB)
        ∗ (xA.view.loc (tV d L) ↦[xA.view.set]{qx} xB) ∗ held d L (bS 1) fb ∗ idle d L 14
        ∗ held d L (oW L 1) oB ∗ idle d L 13
        ∗ flying d L 12 (by decide) (oW L 0).view.dmaCredit iprop(held d L (oW L 0) (gathered xB iB) ∗ held d L (bS 0) (slotRows L xB iB)))
      ⊢ iprop((iprop(waited (tV d L) O W ∗ idle d L 11 ∗ held d L (iW L 1) iB ∗ held d L (aS 1) (slotIx L iB)
            ∗ (xA.view.loc (tV d L) ↦[xA.view.set]{qx} xB) ∗ idle d L 14
            ∗ flying d L 13 (by decide) (oW L 1).view.dmaCredit iprop(held d L (oW L 1) (gathered xB iB) ∗ held d L (bS 1) (slotRows L xB iB))
            ∗ held d L (oW L 0) (gathered xB iB) ∗ held d L (bS 0) (slotRows L xB iB) ∗ idle d L 12)
          -∗ Q (2#32, 2#32, 2#32, 1#32, 0#32))
        -∗ wp frame (wpE (defs₀ (F := F)) 𝒱₀ (tV d L) none) Set.univ
          (k1_t1_body L xV (Memref.isWhole_whole _) iV (Memref.isWhole_whole _) oV (Memref.isWhole_whole _)
            aV (Memref.isWhole_whole _) cc1_scoped1 bV (Memref.isWhole_whole _) cc1_scoped3 cc1_scoped4 (v4w L) t1 (2#32, 1#32, 1#32, 0#32, 1#32)) Q) := by
  unfold k1_t1_body
  simp only [k1_part1_eq_skeleton, k1_part2_eq_skeleton]
  unfold k1_part1_skel k1_part2_skel
  simp only [wp_bind, wp_pure, dif_neg (cond1_1 L), dif_pos (cond2_1 L), dif_pos (cond5_1 L), dif_pos (cond7_1 L), ite_self]
  iintro ⟨#Hmw, HO, Hf11, Hx, Hb1, Hs14, Ho1, Hs13, Hf12⟩ Hk
  iapply (assume_step (tV d L) chk3_1)
  iapply (assume_step (tV d L) chk2_1)
  iapply (assume_step (tV d L) (chk1_1 L))
  imodintro
  iapply (wait_step (tV d L) (aS_eq o7_1 _ _) (inSem_eq o9_1 _) rfl) $$ [Hmw Hf11 HO]
  · isplitr; · iexact Hmw
    isplitl [Hf11]; · iexact Hf11
    iexact HO
  iintro ⟨⟨Ha1, Hi1⟩, Hs11, HO⟩
  ihave Ha1 := (Entails.of_eq (held_list (F := F) L 1 _)) $$ Ha1
  iapply (gather_step (tV d L) (bS_eq o10_1 _ _) (gI_eq o11_1 _ _ _ _) gSem_eq (gather_credit 1) (gI_lt L 1 iB hi)
    (slotRows L xB iB) (read_gather L 1 xB iB hi)) $$ [Hx Hb1 Ha1 Hs14]
  · isplitl [Hx]; · iexact Hx
    isplitl [Hb1]; · iexact Hb1
    isplitl [Ha1]; · iexact Ha1
    iexact Hs14
  iintro Hf14
  iapply (wait_step (tV d L) (bS_eq o10_1 _ _) gSem_eq rfl) $$ [Hmw Hf14 HO]
  · isplitr; · iexact Hmw
    isplitl [Hf14]; · iexact Hf14
    iexact HO
  iintro ⟨⟨Hb1, Hx, Ha1⟩, Hs14, HO⟩
  ihave Ha1 := (Entails.of_eq (held_list (F := F) L 1 _).symm) $$ Ha1
  imodintro
  iapply (copy_step (tV d L) (bS_eq o12_1 _ _) (oW_eq (o13_1 L) _ _) (outSem_eq o14_1 _) (by decide) (gathered xB iB) (read_out L 1 xB iB)) $$ [Hb1 Ho1 Hs13]
  · isplitl [Hb1]; · iexact Hb1
    isplitl [Ho1]; · iexact Ho1
    iexact Hs13
  iintro Hf13
  iapply (wait_step (tV d L) (oW_eq (o16_1 L) _ _) (outSem_eq o17_0 _) rfl) $$ [Hmw Hf12 HO]
  · isplitr; · iexact Hmw
    isplitl [Hf12]; · iexact Hf12
    iexact HO
  iintro ⟨⟨Ho0, Hb0⟩, Hs12, HO⟩
  imodintro
  iapply (Entails.of_eq (congrArg Q (counters_1 L)).symm)
  iapply Hk
  isplitl [HO]; · iexact HO
  isplitl [Hs11]; · iexact Hs11
  isplitl [Hi1]; · iexact Hi1
  isplitl [Ha1]; · iexact Ha1
  isplitl [Hx]; · iexact Hx
  isplitl [Hs14]; · iexact Hs14
  isplitl [Hf13]; · iexact Hf13
  isplitl [Ho0]; · iexact Ho0
  isplitl [Hb0]; · iexact Hb0
  iexact Hs12

end Trips

end Cert.Proof.Vq

end
-- ==== Proof.Body.lean ====
/-
  A subcore's whole task: of the rows of the codebook, the ones its two windows of entry numbers name, in their windows of the output.
-/
module

public import proofs.«01_k».proof.Proof.Trips

@[expose] public section

set_option maxRecDepth 16384

noncomputable section

namespace Cert.Proof.Vq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ

/-! ## The whole task -/

section Whole

variable {d : Dev nD} (L : grid1.Coords) (xB : Buf (Elt F) (xLoc d)) (iB : Buf (Elt F) (iLoc d)) (qx : PosShare TreeShare)

abbrev cell (d : Dev nD) (L : grid1.Coords) (k : Nat) (hk : k < 21 := by decide) : GSem nD τ sig := (tV d L, SemLoc.dma (csem k hk))

omit [FloatOps F] in
theorem cell_ne {k k' : Nat} {hk : k < 21} {hk' : k' < 21} (h : k ≠ k') : cell d L k hk ≠ cell d L k' hk' := fun e => by
  have := (Prod.mk.inj e).2
  injection this with this
  exact h (congrArg Fin.val this)

omit [FloatOps F] in
theorem cell_mem {k : Nat} {hk : k < 21} (h : (SemLoc.dma (csem k hk) : SemLoc sig).isScoped .scVector = true) : cell d L k hk ∈ ownCells (tV d L) :=
  mem_ownCells.mpr ⟨rfl, h⟩

omit [FloatOps F] in
theorem ownSems0_V :
    (ownSems0 (tV d L) : sProp 𝕄)
      = iprop(idle d L 10 ∗ idle d L 11 ∗ idle d L 12 ∗ idle d L 13 ∗ idle d L 14
          ∗ bigSep ((((((ownCells (tV d L)).erase (cell d L 10)).erase (cell d L 11)).erase (cell d L 12)).erase (cell d L 13)).erase (cell d L 14))
              fun g => semVal g 0) := by
  unfold SparseCore.Cfg.ownSems0
  rw [SparseCore.bigSep_erase' (cell_mem (d := d) L (k := 10) (hk := by decide) (by decide)),
    SparseCore.bigSep_erase' (Finset.mem_erase.mpr ⟨cell_ne L (by decide), cell_mem (d := d) L (k := 11) (hk := by decide) (by decide)⟩),
    SparseCore.bigSep_erase' (Finset.mem_erase.mpr ⟨cell_ne L (by decide), Finset.mem_erase.mpr ⟨cell_ne L (by decide), cell_mem (d := d) L (k := 12) (hk := by decide) (by decide)⟩⟩),
    SparseCore.bigSep_erase' (Finset.mem_erase.mpr ⟨cell_ne L (by decide), Finset.mem_erase.mpr ⟨cell_ne L (by decide),
      Finset.mem_erase.mpr ⟨cell_ne L (by decide), cell_mem (d := d) L (k := 13) (hk := by decide) (by decide)⟩⟩⟩),
    SparseCore.bigSep_erase' (Finset.mem_erase.mpr ⟨cell_ne L (by decide), Finset.mem_erase.mpr ⟨cell_ne L (by decide),
      Finset.mem_erase.mpr ⟨cell_ne L (by decide), Finset.mem_erase.mpr ⟨cell_ne L (by decide), cell_mem (d := d) L (k := 14) (hk := by decide) (by decide)⟩⟩⟩⟩)]

omit [FloatOps F] in
/-- The slots' buffers are among the subcore's own. -/
theorem ownBufs_V :
    (ownBufs (tV d L) : sProp 𝕄)
      = iprop((∃ f, (tV d L).loc cc1_scoped0 ↦{fullShare} f) ∗ (∃ f, (tV d L).loc cc1_scoped2 ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

omit [FloatOps F] in
theorem mem_aS (n : Fin 2) (j : S2x1x256.Idx) : j ∈ (aS n).view.set ↔ j 0 = n := by
  unfold View.set
  rw [Finset.mem_map]
  constructor
  · rintro ⟨x, -, rfl⟩; rw [aS_emb]
  · intro h
    refine ⟨ix2 (0 : Fin 1) (j 2), Finset.mem_univ _, ?_⟩
    rw [aS_emb, ← h]
    have h1 : j 1 = (0 : Fin 1) := Subsingleton.elim (α := Fin 1) _ _
    funext a; fin_cases a
    · rfl
    · exact h1.symm
    · rfl

omit [FloatOps F] in
theorem mem_bS (n : Fin 2) (j : S2x256x128.Idx) : j ∈ (bS n).view.set ↔ j 0 = n := by
  unfold View.set
  rw [Finset.mem_map]
  constructor
  · rintro ⟨x, -, rfl⟩; rw [bS_emb]
  · intro h
    refine ⟨ix2 (j 1) (j 2), Finset.mem_univ _, ?_⟩
    rw [bS_emb, ← h]
    funext a; fin_cases a <;> rfl

omit [FloatOps F] in
theorem aS_compl : Finset.univ \ (aS 0).view.set = (aS 1).view.set := by
  ext j
  rw [Finset.mem_sdiff, mem_aS, mem_aS]
  have : ∀ x : Fin 2, ¬ x = 0 ↔ x = 1 := by decide
  exact (and_iff_right (Finset.mem_univ j)).trans (this (j 0))

omit [FloatOps F] in
theorem bS_compl : Finset.univ \ (bS 0).view.set = (bS 1).view.set := by
  ext j
  rw [Finset.mem_sdiff, mem_bS, mem_bS]
  have : ∀ x : Fin 2, ¬ x = 0 ↔ x = 1 := by decide
  exact (and_iff_right (Finset.mem_univ j)).trans (this (j 0))

omit [FloatOps F] in
theorem slotsA (f : Buf (Elt F) (aV.view.loc (tV d L))) :
    ((tV d L).loc cc1_scoped0 ↦{fullShare} f : sProp 𝕄) ⊣⊢ iprop(held d L (aS 0) f ∗ held d L (aS 1) f) := by
  have h := pointsTo_split_subset (Ix := HIx 1) (Name := ℕ) (U := UU) (Lvl := ℕ) (ℓ := (tV d L).loc cc1_scoped0) (q := fullShare) (f := f) (S := Finset.univ) (Finset.subset_univ (aS 0).view.set)
  rw [show (Finset.univ \ (aS 0).view.set : Finset (Idx ((tV d L).loc cc1_scoped0))) = (aS 1).view.set from aS_compl] at h
  exact h

omit [FloatOps F] in
theorem slotsB (f : Buf (Elt F) (bV.view.loc (tV d L))) :
    ((tV d L).loc cc1_scoped2 ↦{fullShare} f : sProp 𝕄) ⊣⊢ iprop(held d L (bS 0) f ∗ held d L (bS 1) f) := by
  have h := pointsTo_split_subset (Ix := HIx 1) (Name := ℕ) (U := UU) (Lvl := ℕ) (ℓ := (tV d L).loc cc1_scoped2) (q := fullShare) (f := f) (S := Finset.univ) (Finset.subset_univ (bS 0).view.set)
  rw [show (Finset.univ \ (bS 0).view.set : Finset (Idx ((tV d L).loc cc1_scoped2))) = (bS 1).view.set from bS_compl] at h
  exact h

/-- What a tile is given: its two windows of entry numbers, a share of the codebook, its two windows of the output. -/
def given (d : Dev nD) (L : grid1.Coords) (xB : Buf (Elt F) (xLoc d)) (iB : Buf (Elt F) (iLoc d)) (oB : Buf (Elt F) (oLoc d)) (qx : PosShare TreeShare) : sProp 𝕄 :=
  iprop(((iLoc d ↦[(iW L 0).view.set]{fullShare} iB) ∗ (iLoc d ↦[(iW L 1).view.set]{fullShare} iB)) ∗ (xLoc d ↦{qx} xB)
    ∗ (oLoc d ↦[(oW L 0).view.set]{fullShare} oB) ∗ (oLoc d ↦[(oW L 1).view.set]{fullShare} oB))

omit [FloatOps F] in
theorem xA_set : xA.view.set = Finset.univ := by
  refine Finset.eq_univ_iff_forall.mpr fun j => ?_
  unfold View.set
  exact Finset.mem_map.mpr ⟨j, Finset.mem_univ _, xA_emb j⟩

theorem v4w_eq (i : grid1.Coords) :
    Scalar.muli (Scalar.addi (Scalar.addi 0#32 (Scalar.muli (BitVec.ofNat 32 (i 1).val) 1#32)) (Scalar.muli (BitVec.ofNat 32 (i 0).val) 16#32)) 2#32 = v4w i := rfl

theorem first_slot : Scalar.addi 0#32 1#32 = 1#32 := by decide

theorem trips_list' : (List.finRange (Scf.trips 0#32 (Scalar.addi 0#32 2#32) 1#32) : List (Fin (Scf.trips 0#32 (Scalar.addi 0#32 2#32) 1#32))) = [t0, t1] := by decide

omit [FloatOps F] in
theorem sharedCodebook : (xLoc d ↦{qx} xB : sProp 𝕄) = (xA.view.loc (tV d L) ↦[xA.view.set]{qx} xB) := by
  rw [xA_set]

omit [FloatOps F] in
theorem waited_intro (c : Thread nD τ) (O : CellTallies nD τ sig (HIx 1)) (W : Waits sig (HIx 1)) : owes c O W ⊢ waited (F := F) c O W := by
  unfold waited
  iintro HO
  iexists W; isplitr
  · ipureintro; exact fun p hp => .inl hp
  iexact HO

set_option maxHeartbeats 1600000 in
theorem tile_body (hF : (K (F := F)).Facts) (hi : ∀ j, (iB j : BitVec 32).toNat < 8192) (oB : Buf (Elt F) (oLoc d))
    (O : CellTallies nD τ sig (HIx 1)) (W : Waits sig (HIx 1)) (hO : ∀ g, O g none = 0) :
    iprop(levAts (K (F := F)).L (K (F := F)).lev ∗ emp
        ∗ given d L xB iB oB qx
        ∗ scopedBufs (tV d L) ∗ scopedSems0 (tV d L) ∗ owes (tV d L) O W)
      ⊢ wp frame (wpE (defs₀ (F := F)) 𝒱₀ (tV d L) none) Set.univ
          (cc1_gather_kernel L xV (Memref.isWhole_whole _) iV (Memref.isWhole_whole _) oV (Memref.isWhole_whole _)
            aV (Memref.isWhole_whole _) cc1_scoped1 bV (Memref.isWhole_whole _) cc1_scoped3 cc1_scoped4)
          fun _ => iprop(given d L xB iB (gathered xB iB) qx
            ∗ scopedBufs (tV d L) ∗ scopedSems0 (tV d L)
            ∗ ∃ W', ⌜∀ p ∈ W', p ∈ W ∨ p.2 = none⌝ ∗ owes (tV d L) O W') := by
  rw [(K (F := F)).scopedBufs_V hF d (cV L) (jV L), SparseCore.Cfg.scopedSems0_V (Val := Elt F) d (cV L) (jV L)]
  rw [show (ownSems0 (V d (cV L) (jV L)) : sProp 𝕄) = _ from ownSems0_V (F := F) L, show (ownBufs (V d (cV L) (jV L)) : sProp 𝕄) = _ from ownBufs_V (F := F) L]
  simp only [cc1_gather_kernel_eq_skeleton]; unfold cc1_gather_kernel_skel
  simp only [k1_part3_eq_skeleton, k1_part4_eq_skeleton]
  unfold k1_part3_skel k1_part4_skel Scf.Loop.for
  simp only [wp_bind, wp_pure, Scf.for_eq, trips_list', Scf.forFrom_cons, Scf.forFrom_nil, wp_ret, v4w_eq, first_slot]
  iintro ⟨#Hlv, -, Hg, ⟨⟨%fa, Ha⟩, ⟨%fb, Hb⟩, Hbufs⟩, ⟨Hs10, Hs11, Hs12, Hs13, Hs14, Hsems⟩, HO⟩
  unfold given
  icases Hg with ⟨⟨Hi0, Hi1⟩, Hx, Ho0, Ho1⟩
  ihave Hx := (Entails.of_eq (sharedCodebook L xB qx)) $$ Hx
  ihave Ha := (slotsA (F := F) L fa).1 $$ Ha
  icases Ha with ⟨Ha0, Ha1⟩
  ihave Hb := (slotsB (F := F) L fb).1 $$ Hb
  icases Hb with ⟨Hb0, Hb1⟩
  ihave Hmw := (show levAts (K (F := F)).L (K (F := F)).lev ⊢ Transfers.MayWaits (tV d L) (none : HIx 1) O from
    (K (F := F)).mayWaits_none (thr := tV d L) hO) $$ Hlv
  icases Hmw with #Hmw
  ihave HO := (show owes (tV d L) O W ⊢ waited (F := F) (tV d L) O W from waited_intro (F := F) (tV d L) O W) $$ HO
  iapply (copy_step (tV d L) (iW_eq (o2 L) _ _) (aS_eq o1 _ _) (inSem_eq o3 _) (show 0 < S1x256.numel by decide) (slotIx L iB) (read_in L 0 iB)) $$ [Hi0 Ha0 Hs10]
  · isplitl [Hi0]; · iexact Hi0
    isplitl [Ha0]; · iexact Ha0
    iexact Hs10
  iintro Hf10
  imodintro
  iapply (trip0 L xB iB qx hi O W fa fb oB) $$ [HO Hf10 Hi1 Ha1 Hs11 Hx Hb0 Hs14 Ho0 Hs12]
  · isplitr; · iexact Hmw
    isplitl [HO]; · iexact HO
    isplitl [Hf10]; · iexact Hf10
    isplitl [Hi1]; · iexact Hi1
    isplitl [Ha1]; · iexact Ha1
    isplitl [Hs11]; · iexact Hs11
    isplitl [Hx]; · iexact Hx
    isplitl [Hb0]; · iexact Hb0
    isplitl [Hs14]; · iexact Hs14
    isplitl [Ho0]; · iexact Ho0
    iexact Hs12
  iintro ⟨HO, Hs10, Hi0, Ha0, Hf11, Hx, Hs14, Hf12⟩
  iapply (trip1 L xB iB qx hi O W fb oB) $$ [HO Hf11 Hx Hb1 Hs14 Ho1 Hs13 Hf12]
  · isplitr; · iexact Hmw
    isplitl [HO]; · iexact HO
    isplitl [Hf11]; · iexact Hf11
    isplitl [Hx]; · iexact Hx
    isplitl [Hb1]; · iexact Hb1
    isplitl [Hs14]; · iexact Hs14
    isplitl [Ho1]; · iexact Ho1
    isplitl [Hs13]; · iexact Hs13
    iexact Hf12
  iintro ⟨HO, Hs11, Hi1, Ha1, Hx, Hs14, Hf13, Ho0, Hb0, Hs12⟩
  imodintro
  iapply (assume_step (tV d L) (chk5_0 L))
  iapply (assume_step (tV d L) chk4_1)
  imodintro
  iapply (wait_step (tV d L) (oW_eq (o19_0 L) _ _) (outSem_eq o20_1 _) rfl) $$ [Hf13 HO]
  · isplitr; · iexact Hmw
    isplitl [Hf13]; · iexact Hf13
    iexact HO
  iintro ⟨⟨Ho1, Hb1⟩, Hs13, HO⟩
  imodintro
  unfold waited
  isplitl [Hi0 Hi1 Hx Ho0 Ho1]
  · isplitl [Hi0 Hi1]
    · isplitl [Hi0]; · iexact Hi0
      iexact Hi1
    isplitl [Hx]; · iapply (Entails.of_eq (sharedCodebook L xB qx).symm) $$ Hx
    isplitl [Ho0]; · iexact Ho0
    iexact Ho1
  isplitl [Ha0 Ha1 Hb0 Hb1 Hbufs]
  · isplitl [Ha0 Ha1]
    · iexists _; iapply (slotsA (F := F) L (slotIx L iB)).2
      isplitl [Ha0]; · iexact Ha0
      iexact Ha1
    isplitl [Hb0 Hb1]
    · iexists _; iapply (slotsB (F := F) L (slotRows L xB iB)).2
      isplitl [Hb0]; · iexact Hb0
      iexact Hb1
    iexact Hbufs
  isplitl [Hs10 Hs11 Hs12 Hs13 Hs14 Hsems]
  · isplitl [Hs10]; · iexact Hs10
    isplitl [Hs11]; · iexact Hs11
    isplitl [Hs12]; · iexact Hs12
    isplitl [Hs13]; · iexact Hs13
    isplitl [Hs14]; · iexact Hs14
    iexact Hsems
  iexact HO

end Whole

end Cert.Proof.Vq

end
-- ==== Proof.Launch.lean ====
/-
  What the SparseCore call's handshakes carry: each of the thirty-two tiles its two windows of the entry numbers and of
  the output and a share of the codebook; all of them together are the three buffers whole.
-/
module

public import proofs.«01_k».proof.Proof.Body

@[expose] public section

set_option maxRecDepth 16384

noncomputable section

namespace Cert.Proof.Vq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ

/-- A tile's coordinates: its core and its place in the core. -/
def coordsV (c : Fin (grid1.bound 0)) (s : Fin (grid1.bound 1)) : grid1.Coords :=
  fun | 0 => c | 1 => s | ⟨_ + 2, h⟩ => absurd h (Nat.not_lt.2 (Nat.le_add_left _ _))

/-! ## The windows cut the rows -/

section Windows

/-- A tile and one of its two windows. -/
abbrev Win : Type := (Fin 2 × Fin 16) × Fin 2

abbrev Win.co (t : Win) : grid1.Coords := coordsV t.1.1 t.1.2

theorem num_co (c : Fin 2) (s : Fin 16) : num (coordsV c s) = 16 * c.val + s.val := rfl

/-- The window a row lies in. -/
def winOf (r : Fin 16384) : Win :=
  ((⟨r.val / 8192, by omega⟩, ⟨r.val / 512 % 16, by omega⟩), ⟨r.val / 256 % 2, by omega⟩)

theorem winOf_wrow (t : Win) (r : Fin 256) : winOf (wrow t.co t.2 r) = t := by
  obtain ⟨⟨c, s⟩, n⟩ := t
  have e : (wrow (coordsV c s) n r).val = 512 * (16 * c.val + s.val) + 256 * n.val + r.val := rfl
  unfold winOf
  refine Prod.ext (Prod.ext (Fin.ext ?_) (Fin.ext ?_)) (Fin.ext ?_)
  · show (wrow (coordsV c s) n r).val / 8192 = c.val
    rw [e]; omega
  · show (wrow (coordsV c s) n r).val / 512 % 16 = s.val
    rw [e]; omega
  · show (wrow (coordsV c s) n r).val / 256 % 2 = n.val
    rw [e]; omega

theorem wrow_winOf (r : Fin 16384) : wrow (winOf r).co (winOf r).2 ⟨r.val % 256, by omega⟩ = r := by
  apply Fin.ext
  show 512 * (16 * (r.val / 8192) + r.val / 512 % 16) + 256 * (r.val / 256 % 2) + r.val % 256 = r.val
  omega

theorem mem_iW (t : Win) (j : S1x16384.Idx) : j ∈ (iW t.co t.2).view.set ↔ winOf (j 1) = t := by
  unfold View.set
  rw [Finset.mem_map]
  constructor
  · rintro ⟨x, -, hx⟩
    have h := congrArg (fun y : S1x16384.Idx => y 1) ((iW_emb t.co t.2 x).symm.trans hx)
    rw [← show wrow t.co t.2 (x 1) = j 1 from h]
    exact winOf_wrow t _
  · rintro rfl
    refine ⟨(ix2 (0 : Fin 1) (⟨(j 1).val % 256, Nat.mod_lt _ (by decide)⟩ : Fin 256) : S1x256.Idx), Finset.mem_univ _, ?_⟩
    refine (iW_emb _ _ _).trans ?_
    funext a
    match a with
    | 0 => exact Subsingleton.elim (α := Fin 1) _ _
    | 1 => exact wrow_winOf (j 1)

theorem mem_oW (t : Win) (j : S16384x128.Idx) : j ∈ (oW t.co t.2).view.set ↔ winOf (j 0) = t := by
  unfold View.set
  rw [Finset.mem_map]
  constructor
  · rintro ⟨x, -, hx⟩
    have h := congrArg (fun y : S16384x128.Idx => y 0) ((oW_emb t.co t.2 x).symm.trans hx)
    rw [← show wrow t.co t.2 (x 0) = j 0 from h]
    exact winOf_wrow t _
  · rintro rfl
    refine ⟨(ix2 (⟨(j 0).val % 256, Nat.mod_lt _ (by decide)⟩ : Fin 256) (j 1) : S256x128.Idx), Finset.mem_univ _, ?_⟩
    refine (oW_emb _ _ _).trans ?_
    funext a
    match a with
    | 0 => exact wrow_winOf (j 0)
    | 1 => rfl

variable (d : Dev nD)

abbrev iSet (t : Win) : Finset (Idx (iLoc d)) := (iW t.co t.2).view.set
abbrev oSet (t : Win) : Finset (Idx (oLoc d)) := (oW t.co t.2).view.set

theorem iSet_disj : ∀ t ∈ (Finset.univ : Finset Win), ∀ t' ∈ (Finset.univ : Finset Win), t ≠ t' → Disjoint (iSet d t) (iSet d t') :=
  fun t _ t' _ h => Finset.disjoint_left.mpr fun j h1 h2 => h (((mem_iW t j).mp h1).symm.trans ((mem_iW t' j).mp h2))
theorem oSet_disj : ∀ t ∈ (Finset.univ : Finset Win), ∀ t' ∈ (Finset.univ : Finset Win), t ≠ t' → Disjoint (oSet d t) (oSet d t') :=
  fun t _ t' _ h => Finset.disjoint_left.mpr fun j h1 h2 => h (((mem_oW t j).mp h1).symm.trans ((mem_oW t' j).mp h2))
theorem iSet_cover : (Finset.univ : Finset Win).biUnion (iSet d) = Finset.univ :=
  Finset.eq_univ_iff_forall.mpr fun j => Finset.mem_biUnion.mpr ⟨winOf (j 1), Finset.mem_univ _, (mem_iW _ j).mpr rfl⟩
theorem oSet_cover : (Finset.univ : Finset Win).biUnion (oSet d) = Finset.univ :=
  Finset.eq_univ_iff_forall.mpr fun j => Finset.mem_biUnion.mpr ⟨winOf (j 0), Finset.mem_univ _, (mem_oW _ j).mpr rfl⟩

/-- A tile's share of the codebook. -/
def xShare (c : Fin 2) (s : Fin 16) : PosShare TreeShare := pieceOf fullShare 32 (by decide) (finProdFinEquiv (c, s))

omit [FloatOps F] in
theorem iPts_split (f : Buf (Elt F) (iLoc d)) :
    (iLoc d ↦{fullShare} f : sProp 𝕄) = bigSep Finset.univ fun c : Fin 2 => bigSep Finset.univ fun s : Fin 16 =>
      iprop((iLoc d ↦[iSet d ((c, s), 0)]{fullShare} f) ∗ (iLoc d ↦[iSet d ((c, s), 1)]{fullShare} f)) := by
  rw [show (iLoc d ↦{fullShare} f : sProp 𝕄) = (iLoc d ↦[(Finset.univ : Finset Win).biUnion (iSet d)]{fullShare} f : sProp 𝕄) by rw [iSet_cover],
    pointsTo_biUnion Finset.univ (iSet d) (iSet_disj d), bigSep_univ_prod, bigSep_univ_prod]
  exact bigSep_congr fun c _ => bigSep_congr fun s _ => bigSep_univ_two _

omit [FloatOps F] in
theorem oPts_split (f : Buf (Elt F) (oLoc d)) :
    (oLoc d ↦{fullShare} f : sProp 𝕄) = bigSep Finset.univ fun c : Fin 2 => bigSep Finset.univ fun s : Fin 16 =>
      iprop((oLoc d ↦[oSet d ((c, s), 0)]{fullShare} f) ∗ (oLoc d ↦[oSet d ((c, s), 1)]{fullShare} f)) := by
  rw [show (oLoc d ↦{fullShare} f : sProp 𝕄) = (oLoc d ↦[(Finset.univ : Finset Win).biUnion (oSet d)]{fullShare} f : sProp 𝕄) by rw [oSet_cover],
    pointsTo_biUnion Finset.univ (oSet d) (oSet_disj d), bigSep_univ_prod, bigSep_univ_prod]
  exact bigSep_congr fun c _ => bigSep_congr fun s _ => bigSep_univ_two _

omit [FloatOps F] in
theorem xPts_split (f : Buf (Elt F) (xLoc d)) :
    (xLoc d ↦{fullShare} f : sProp 𝕄) = bigSep Finset.univ fun c : Fin 2 => bigSep Finset.univ fun s : Fin 16 =>
      (xLoc d ↦{xShare c s} f) := by
  rw [pointsTo_piecesOf Finset.univ f (o := 32) (by decide) fullShare,
    bigSep_univ_equiv (finProdFinEquiv : Fin 2 × Fin 16 ≃ Fin 32), bigSep_univ_prod]
  rfl

/-- All the tiles' parts together are the three buffers whole. -/
theorem given_all (xB : Buf (Elt F) (xLoc d)) (iB : Buf (Elt F) (iLoc d)) (oB : Buf (Elt F) (oLoc d)) :
    (bigSep Finset.univ fun c : Fin 2 => bigSep Finset.univ fun s : Fin 16 => given d (coordsV c s) xB iB oB (xShare c s))
      = (iprop((iLoc d ↦{fullShare} iB) ∗ (xLoc d ↦{fullShare} xB) ∗ (oLoc d ↦{fullShare} oB)) : sProp 𝕄) := by
  rw [iPts_split, oPts_split, xPts_split, ← bigSep_sep', ← bigSep_sep']
  refine bigSep_congr fun c _ => ?_
  rw [← bigSep_sep', ← bigSep_sep']
  rfl

end Windows

/-! ## The handshakes -/

section Handshakes

variable (xB : (d : Dev nD) → Buf (Elt F) (xLoc d)) (iB : (d : Dev nD) → Buf (Elt F) (iLoc d)) (oB : (d : Dev nD) → Buf (Elt F) (oLoc d))

/-- A tile's part, the output at `o`. -/
abbrev part (o : (d : Dev nD) → Buf (Elt F) (oLoc d)) (d : Dev nD) (c : Fin 2) (s : Fin 16) : sProp 𝕄 :=
  given d (coordsV c s) (xB d) (iB d) (o d) (xShare c s)

/-- The output once every tile is done. -/
abbrev doneB (d : Dev nD) : Buf (Elt F) (oLoc d) := gathered (xB d) (iB d)

instance given_storable (d : Dev nD) (L : grid1.Coords) (x : Buf (Elt F) (xLoc d)) (i : Buf (Elt F) (iLoc d)) (o : Buf (Elt F) (oLoc d)) (q : PosShare TreeShare) :
    BI.Storable (upEmb : UEmb _ 𝕄) (given d L x i o q) := by unfold given; infer_instance

theorem bigSep_storable {I : Type} (s : Finset I) (Φ : I → sProp 𝕄) (h : ∀ i, BI.Storable (upEmb : UEmb _ 𝕄) (Φ i)) :
    BI.Storable (upEmb : UEmb _ 𝕄) (bigSep s Φ) := by
  classical
  induction s using Finset.induction_on with
  | empty => rw [bigSep_empty]; exact (inferInstance : BI.Storable (upEmb : UEmb _ 𝕄) iprop(emp))
  | insert a s ha ih => rw [bigSep_insert ha]; have := h a; exact (inferInstance : BI.Storable (upEmb : UEmb _ 𝕄) iprop(Φ a ∗ bigSep s Φ))

/-- The one call takes each core the parts of its sixteen tiles, the output as it was; and brings them back, the output's
    rows gathered. -/
def P : (K (F := F)).Pay (nD := nD) (Val := Elt F) (Name := ℕ) (U := UU) where
  st := fun q d c => match q with | 0 => bigSep Finset.univ fun s : Fin 16 => part xB iB oB d (Fin.cast nCore_zero c) s
  dn := fun q d c => match q with | 0 => bigSep Finset.univ fun s : Fin 16 => part xB iB (doneB xB iB) d (Fin.cast nCore_zero c) s
  go := fun q d c s => match q with | 0 => part xB iB oB d (Fin.cast nCore_zero c) (Fin.cast nSub_zero s)
  td := fun q d c s => match q with | 0 => part xB iB (doneB xB iB) d (Fin.cast nCore_zero c) (Fin.cast nSub_zero s)
  x := fun _ _ => iprop(emp)

instance P_storable : (P (F := F) xB iB oB).IsStorable where
  st q d c := match q with
    | 0 => bigSep_storable Finset.univ (fun s : Fin 16 => part xB iB oB d (Fin.cast nCore_zero c) s) fun _ => inferInstance
  dn q d c := match q with
    | 0 => bigSep_storable Finset.univ (fun s : Fin 16 => part xB iB (doneB xB iB) d (Fin.cast nCore_zero c) s) fun _ => inferInstance
  go q d c s := match q with
    | 0 => (inferInstance : BI.Storable (upEmb : UEmb _ 𝕄) (part xB iB oB d (Fin.cast nCore_zero c) (Fin.cast nSub_zero s)))
  td q d c s := match q with
    | 0 => (inferInstance : BI.Storable (upEmb : UEmb _ 𝕄) (part xB iB (doneB xB iB) d (Fin.cast nCore_zero c) (Fin.cast nSub_zero s)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P xB iB oB).st 0 d c)
    = (iprop((iLoc d ↦{fullShare} iB d) ∗ (xLoc d ↦{fullShare} xB d) ∗ (oLoc d ↦{fullShare} oB d)) : sProp 𝕄) :=
  (bigSep_cores (F := F) fun c => bigSep Finset.univ fun s : Fin 16 => part xB iB oB d c s).trans (given_all d (xB d) (iB d) (oB d))

theorem dn0_eq (d : Dev nD) : (bigSep Finset.univ fun c : Fin ((K (F := F)).nCore 0) => (P xB iB oB).dn 0 d c)
    = (iprop((iLoc d ↦{fullShare} iB d) ∗ (xLoc d ↦{fullShare} xB d) ∗ (oLoc d ↦{fullShare} gathered (xB d) (iB d))) : sProp 𝕄) :=
  (bigSep_cores (F := F) fun c => bigSep Finset.univ fun s : Fin 16 => part xB iB (doneB xB iB) d c s).trans (given_all d (xB d) (iB d) _)

theorem vecSplit : (K (F := F)).VecSplit' (P xB iB oB) 0 := by
  intro d c
  show (bigSep Finset.univ fun s : Fin 16 => part xB iB oB d (Fin.cast nCore_zero c) s) ⊢ |={Set.univ}=> iprop(
      (bigSep Finset.univ fun i : Fin ((K (F := F)).nSub 0) => part xB iB oB d (Fin.cast nCore_zero c) (Fin.cast nSub_zero i))
      ∗ ((bigSep Finset.univ fun i : Fin ((K (F := F)).nSub 0) => part xB iB (doneB xB iB) d (Fin.cast nCore_zero c) (Fin.cast nSub_zero i))
          -∗ bigSep Finset.univ fun s : Fin 16 => part xB iB (doneB xB iB) d (Fin.cast nCore_zero c) s))
  rw [bigSep_tasks (F := F) (fun i => part xB iB oB d (Fin.cast nCore_zero c) i),
    bigSep_tasks (F := F) (fun i => part xB iB (doneB xB iB) d (Fin.cast nCore_zero c) i)]
  iintro H; imodintro
  isplitl [H]; · iexact H
  iintro H; iexact H

/-! ## A tile's obligation -/

theorem defs₀_vector (c : Fin τ.nSC) (s : Fin τ.nSub) :
    defs₀ (F := F) (.scVector c s) 1 ()
      = SparseCore.onTile hcore1 hsub1 (fun c s => cc1_gather_kernel (coordsV c s)
          xV (Memref.isWhole_whole _) iV (Memref.isWhole_whole _) oV (Memref.isWhole_whole _)
          aV (Memref.isWhole_whole _) cc1_scoped1 bV (Memref.isWhole_whole _) cc1_scoped3 cc1_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hi : ∀ d j, (iB d j : BitVec 32).toNat < 8192) :
    (K (F := F)).TileObl (D (F := F)) 𝒱 (P xB iB oB) v₀ 0 := by
  intro d c i O W hO _ _
  simp only [show (P xB iB oB).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (d := d) (coordsV ⟨_, hci.1⟩ ⟨_, hci.2⟩) (xB d) (iB d) (xShare ⟨_, hci.1⟩ ⟨_, hci.2⟩) hF (hi d) (oB d) O W hO).trans
    (wp_mono frame _ _ fun _ => obl_post)

end Handshakes

end Cert.Proof.Vq

end
-- ==== Proof.Run.lean ====
/-
  The run of the whole program: the host's lines, the two TensorCore calls and the SparseCore call between them, each
  taking the unscoped buffers from one valuation to the next.
-/
module

public import proofs.«01_k».proof.Proof.Host
public import proofs.«01_k».proof.Proof.Launch

@[expose] public section

set_option maxRecDepth 16384

noncomputable section

namespace Cert.Proof.Vq

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The valuations -/

section Vals

variable (m : (ℓ : Loc nD τ sig) → Buf (Elt F) ℓ)

abbrev tcr (b : Ref sig .tc) : DevRef τ sig := Proc.devRef .tc b

/-- At the launch, -/
def V0 (d : Dev nD) : Valuation τ sig (Elt F) := fun b => m (d, b)
/-- at the encode call's entry, -/
def V1 (d : Dev nD) : Valuation τ sig (Elt F) := StableHlo.after ops1 (V0 m d)
/-- after it, -/
def V2 (d : Dev nD) : Valuation τ sig (Elt F) :=
  Function.update (Function.update (V1 m d) (tcr main_v28_0) ((datE (V1 m) 0 d).arrAt 5 cfg0.N)) (tcr main_v28_1) ((datE (V1 m) 0 d).arrAt 6 cfg0.N)
/-- at the SparseCore call's entry, -/
def V3 (d : Dev nD) : Valuation τ sig (Elt F) := StableHlo.after ops2 (V2 m d)

abbrev xB (d : Dev nD) : Buf (Elt F) (xLoc d) := V3 m d (tcr main_v31)
abbrev iB (d : Dev nD) : Buf (Elt F) (iLoc d) := V3 m d (tcr main_v32)
abbrev oB (d : Dev nD) : Buf (Elt F) (oLoc d) := V3 m d (tcr main_v33)

/-- after it, -/
def V4 (d : Dev nD) : Valuation τ sig (Elt F) := Function.update (V3 m d) (tcr main_v33) (gathered (d := d) (xB m d) (iB m d))
/-- at the decode call's entry, -/
def V5 (d : Dev nD) : Valuation τ sig (Elt F) := StableHlo.after ops3 (V4 m d)
/-- after it, -/
def V6 (d : Dev nD) : Valuation τ sig (Elt F) := Function.update (V5 m d) (tcr main_v36) ((datD (V5 m) 1 d).arrAt 3 cfg2.N)
/-- and at the end. -/
def V7 (d : Dev nD) : Valuation τ sig (Elt F) := StableHlo.after ops4 (V6 m d)

/-- The encode call, from the first valuation to the next. -/
def encR : Pipeline.RegionSeg (pcfgs (F := F)) adm (pdats (V1 m) 0) none defs₀ 𝒱₀ (K (F := F)).L (K (F := F)).lev 0 :=
  regE (V1 m) 0 (V2 m)
    (fun c => by
      show V2 m c (tcr main_v28_0) = _
      unfold V2
      rw [Function.update_of_ne (by decide), Function.update_self])
    (fun c => by
      show V2 m c (tcr main_v28_1) = _
      unfold V2
      rw [Function.update_self])
    (fun c b h0 h1 => by
      show V2 m c (tcr b) = _
      unfold V2
      rw [Function.update_of_ne (fun e => h1 (Proc.devRef_injective _ e)), Function.update_of_ne (fun e => h0 (Proc.devRef_injective _ e))])

/-- The decode call. -/
def decR : Pipeline.RegionSeg (pcfgs (F := F)) adm (pdats (V5 m) 1) none defs₀ 𝒱₀ (K (F := F)).L (K (F := F)).lev 1 :=
  regD (V5 m) 1 (V6 m)
    (fun c => by
      show V6 m c (tcr main_v36) = _
      unfold V6
      rw [Function.update_self])
    (fun c b h => by
      show V6 m c (tcr b) = _
      unfold V6
      rw [Function.update_of_ne (fun e => h (Proc.devRef_injective _ e))])

end Vals

/-! ## The pipelines' ghost state -/

theorem pinj : Function.Injective (Pipeline.cellOf (nD := nD) (τ := τ) (Pipeline.pin (pcfgs (F := F)) adm)) := cellOf_inj

/-- What each device's TensorCore is given for its two pipelines. -/
def G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

omit [FloatOps F] in
theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

section Launch

variable (m : (ℓ : Loc nD τ sig) → Buf (Elt F) ℓ) (ρ : Dev nD → PrngReg)

abbrev PP : (K (F := F)).Pay (nD := nD) (Val := Elt F) (Name := ℕ) (U := UU) := P (xB m) (iB m) (oB m)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀ G
  iintro Hu
  ihave H := (ownU_split (F := F) _ _) $$ Hu
  icases H with ⟨HH, HP⟩
  imod (Pipeline.fund_ghost (Pipeline.pin (pcfgs (F := F)) adm) EP pinj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## The steps of @main -/

/-- What the TensorCore holds of the handshakes besides what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(dues (F := F) d n ∗ tcRest d n) := rfl

/-- A TensorCore call's entry, in the pipelines' signature; -/
abbrev callP (p : Fin 2) : Prog (TpuEff nD τ sig (Elt F) (ΛP (F := F)) .tc) PUnit := .op (.customCall (Pipeline.entry p) ()) .ret

/-- and in the program's. -/
abbrev callK (p : Fin 2) : Prog (TpuEff nD τ sig (Elt F) (SparseCore.Sig (ΛP (F := F)) 1) .tc) PUnit :=
  Prog.lift (.customCall (SparseCore.inner (Pipeline.entry p)) ())

theorem callK_eq (p : Fin 2) : (callK p : Prog (TpuEff nD τ sig (Elt F) (SparseCore.Sig (ΛP (F := F)) 1) .tc) PUnit) = SparseCore.liftProg (callP p) := rfl

theorem wp_enc [∀ e, Nonempty (Elt F e)] (κ : GSem nD τ sig → ℕ) (d : Dev nD) (Φ : PUnit → sProp 𝕄) :
    iprop((K (F := F)).ctx EH (PP m) κ ∗ (K (F := F)).tcSt EH d 0 ∗ boundary (T d) ∗ StableHlo.held (T d) ucRefs (V1 m d)
        ∗ Pipeline.cellsGhost (Pipeline.pin (pcfgs (F := F)) adm) EP 0 d ∗ Pipeline.toksInit (Pipeline.pin (pcfgs (F := F)) adm) EP 0 d
        ∗ (((K (F := F)).tcSt EH d 0 ∗ boundary (T d) ∗ StableHlo.held (T d) ucRefs (V2 m d)) -∗ Φ ⟨⟩))
      ⊢ wp frame (wpE ((K (F := F)).defs (D (F := F))) 𝒱 (T d) none) Set.univ (callK 0) Φ := by
  rw [callK_eq]
  refine BIBase.Entails.trans ?_ ((K (F := F)).wp_liftProg (D (F := F)) 𝒱 (T d) Set.univ none (callP 0) Φ)
  refine BIBase.Entails.trans ?_ (Pipeline.RegionSeg.wp (pcfgs (F := F)) adm (pdats (V1 m) 0) none pinj EP defs₀ 𝒱₀ (K (F := F)).L (K (F := F)).lev (encR m) d none
    (fun _ h => nomatch h) .ret Φ)
  rw [tcSt_eq]
  iintro ⟨#Hctx, ⟨Hdues, Hrest⟩, Hb, Hh, Hc, Ht, Hk⟩
  isplitl [Hrest Hk]
  · iintro ⟨Hb, Hpost⟩
    ihave Hpost' := (show (encR m).post d ⊢ iprop(StableHlo.held (T d) ucRefs (V2 m d) ∗ dues (F := F) d 0) from .rfl) $$ Hpost
    icases Hpost' with ⟨Hh, Hdues⟩
    rw [wp_ret]; imodintro
    iapply Hk
    isplitl [Hdues Hrest]
    · isplitl [Hdues]; · iexact Hdues
      iexact Hrest
    isplitl [Hb]; · iexact Hb
    iexact Hh
  isplitl [Hb]; · iexact Hb
  isplitl [Hh Hdues]
  · iapply (show iprop(StableHlo.held (T d) ucRefs (V1 m d) ∗ dues (F := F) d 0) ⊢ (encR m).pre d from .rfl)
    isplitl [Hh]; · iexact Hh
    iexact Hdues
  isplitl []
  · iapply (SparseCore.Cfg.ctx_levAts κ); iexact Hctx
  isplitl [Hc]; · iexact Hc
  iexact Ht

theorem wp_dec [∀ e, Nonempty (Elt F e)] (κ : GSem nD τ sig → ℕ) (d : Dev nD) (Φ : PUnit → sProp 𝕄) :
    iprop((K (F := F)).ctx EH (PP m) κ ∗ (K (F := F)).tcSt EH d 1 ∗ boundary (T d) ∗ StableHlo.held (T d) ucRefs (V5 m d)
        ∗ Pipeline.cellsGhost (Pipeline.pin (pcfgs (F := F)) adm) EP 1 d ∗ Pipeline.toksInit (Pipeline.pin (pcfgs (F := F)) adm) EP 1 d
        ∗ (((K (F := F)).tcSt EH d 1 ∗ boundary (T d) ∗ StableHlo.held (T d) ucRefs (V6 m d)) -∗ Φ ⟨⟩))
      ⊢ wp frame (wpE ((K (F := F)).defs (D (F := F))) 𝒱 (T d) none) Set.univ (callK 1) Φ := by
  rw [callK_eq]
  refine BIBase.Entails.trans ?_ ((K (F := F)).wp_liftProg (D (F := F)) 𝒱 (T d) Set.univ none (callP 1) Φ)
  refine BIBase.Entails.trans ?_ (Pipeline.RegionSeg.wp (pcfgs (F := F)) adm (pdats (V5 m) 1) none pinj EP defs₀ 𝒱₀ (K (F := F)).L (K (F := F)).lev (decR m) d none
    (fun _ h => nomatch h) .ret Φ)
  rw [tcSt_eq]
  iintro ⟨#Hctx, ⟨Hdues, Hrest⟩, Hb, Hh, Hc, Ht, Hk⟩
  isplitl [Hrest Hk]
  · iintro ⟨Hb, Hpost⟩
    ihave Hpost' := (show (decR m).post d ⊢ iprop(StableHlo.held (T d) ucRefs (V6 m d) ∗ dues (F := F) d 1) from .rfl) $$ Hpost
    icases Hpost' with ⟨Hh, Hdues⟩
    rw [wp_ret]; imodintro
    iapply Hk
    isplitl [Hdues Hrest]
    · isplitl [Hdues]; · iexact Hdues
      iexact Hrest
    isplitl [Hb]; · iexact Hb
    iexact Hh
  isplitl [Hb]; · iexact Hb
  isplitl [Hh Hdues]
  · iapply (show iprop(StableHlo.held (T d) ucRefs (V5 m d) ∗ dues (F := F) d 1) ⊢ (decR m).pre d from .rfl)
    isplitl [Hh]; · iexact Hh
    iexact Hdues
  isplitl []
  · iapply (SparseCore.Cfg.ctx_levAts κ); iexact Hctx
  isplitl [Hc]; · iexact Hc
  iexact Ht

/-- The SparseCore call's three buffers. -/
def scRefs : Finset (DevRef τ sig) := {tcr main_v32, tcr main_v31, tcr main_v33}

theorem held_sc (d : Dev nD) (W : Valuation τ sig (Elt F)) :
    (StableHlo.held (T d) ucRefs W : sProp 𝕄)
      = iprop(((iLoc d ↦{fullShare} W (tcr main_v32)) ∗ (xLoc d ↦{fullShare} W (tcr main_v31)) ∗ (oLoc d ↦{fullShare} W (tcr main_v33)))
          ∗ StableHlo.held (T d) (ucRefs \ scRefs) W) := by
  rw [StableHlo.held_sub_split (T d) (T := scRefs) (S := ucRefs) (by decide +kernel) W]
  congr 1
  unfold StableHlo.held scRefs
  rw [SparseCore.bigSep_insert' (by decide), SparseCore.bigSep_insert' (by decide), bigSep_singleton]

theorem wp_sc [∀ e, Nonempty (Elt F e)] (κ : GSem nD τ sig → ℕ) (d : Dev nD) (Φ : PUnit → sProp 𝕄) :
    iprop((K (F := F)).ctx EH (PP m) κ ∗ (K (F := F)).tcSt EH d 0 ∗ StableHlo.held (T d) ucRefs (V3 m d)
        ∗ (((K (F := F)).tcSt EH d 1 ∗ StableHlo.held (T d) ucRefs (V4 m d)) -∗ Φ ⟨⟩))
      ⊢ wp frame (wpE ((K (F := F)).defs (D (F := F))) 𝒱 (T d) none) Set.univ (sc.run d 0) Φ := by
  have h4 : (StableHlo.held (T d) (ucRefs \ scRefs) (V3 m d) : sProp 𝕄) = StableHlo.held (T d) (ucRefs \ scRefs) (V4 m d) := by
    refine StableHlo.held_congr (T d) fun b hb => ?_
    unfold V4
    rw [Function.update_of_ne]
    rintro rfl
    exact absurd hb (by decide +kernel)
  have e1 : V4 m d (tcr main_v32) = V3 m d (tcr main_v32) := by unfold V4; rw [Function.update_of_ne (by decide)]
  have e2 : V4 m d (tcr main_v31) = V3 m d (tcr main_v31) := by unfold V4; rw [Function.update_of_ne (by decide)]
  have e3 : V4 m d (tcr main_v33) = gathered (d := d) (xB m d) (iB m d) := by unfold V4; rw [Function.update_self]
  rw [held_sc, held_sc, e1, e2, e3, h4]
  iintro ⟨#Hctx, Hst, ⟨Hbufs, Hrest⟩, Hk⟩
  iapply ((K (F := F)).wp_run (D (F := F)) 𝒱 (EH := EH) (P := PP m) κ d 0) $$ [Hst Hbufs Hrest Hk]
  isplitr; · iexact Hctx
  isplitl [Hst]; · iexact Hst
  isplitl [Hbufs]
  · rw [st0_eq]
    iexact Hbufs
  iintro ⟨Hst, Hdn⟩
  ihave Hdn' := (Entails.of_eq (dn0_eq (xB m) (iB m) (oB m) d)) $$ Hdn
  iapply Hk
  isplitl [Hst]; · iexact Hst
  isplitl [Hdn']; · iexact Hdn'
  iexact Hrest

/-! ## @main -/

/-- At the end the TensorCore holds every unscoped buffer at the last valuation. -/
abbrev FIN (d : Dev nD) : sProp 𝕄 := StableHlo.held (T d) ucRefs (V7 m d)

theorem launch_held (d : Dev nD) :
    (unscopedBufs d (fun b => m ((SparseCore.T d).loc b)) : sProp 𝕄) = StableHlo.held (SparseCore.T d) ucRefs (V0 m d) := by
  rw [← unscopedBufs_held d (V0 m d)]
  rfl

/-- A line of host operations, over the unscoped buffers. -/
theorem wp_host (d : Dev nD) (ops : List (HloOp τ sig (Elt F))) (hS : ∀ op ∈ ops, op.bufs ⊆ ucRefs)
    (hf : ∀ op ∈ ops, op.fresh = ∅) (W : Valuation τ sig (Elt F)) (k) (Φ : PUnit → sProp 𝕄) :
    iprop(boundary (SparseCore.T d) ∗ StableHlo.held (SparseCore.T d) ucRefs W
        ∗ ((boundary (SparseCore.T d) ∗ StableHlo.held (SparseCore.T d) ucRefs (StableHlo.after ops W))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq ops >>= k) Φ := by
  iintro ⟨Hb, Hh, Hk⟩
  iapply (StableHlo.wp_seq (defs := (K (F := F)).defs (D (F := F))) 𝒱 none Set.univ d ucRefs (β := PUnit) k (K := Φ) ops hS hf W) $$ [Hb Hh]
  · isplitl [Hb]; · iexact Hb
    iexact Hh
  iexact Hk

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G
  rw [main_eq, bigSep_univ_two, bigSep_univ_two]
  rw [launch_held]
  iintro ⟨#Hctx, Hst, ⟨Hb, Hh, Hts, -⟩, ⟨Hc0, Hc1⟩, ⟨Ht0, Ht1⟩⟩
  iapply (wp_host d ops1 ops1_sub ops1_fresh (V0 m d) _ _)
  isplitl [Hb]; · iexact Hb
  isplitl [Hh]; · iexact Hh
  iintro ⟨Hb, Hh⟩
  rw [wp_bind]
  iapply (wp_enc m κ d _)
  isplitr; · iexact Hctx
  isplitl [Hst]; · iexact Hst
  isplitl [Hb]; · iexact Hb
  isplitl [Hh]; · iexact Hh
  isplitl [Hc0]; · iexact Hc0
  isplitl [Ht0]; · iexact Ht0
  iintro ⟨Hst, Hb, Hh⟩
  iapply (wp_host d ops2 ops2_sub ops2_fresh (V2 m d) _ _)
  isplitl [Hb]; · iexact Hb
  isplitl [Hh]; · iexact Hh
  iintro ⟨Hb, Hh⟩
  rw [wp_bind]
  iapply (wp_sc m κ d _)
  isplitr; · iexact Hctx
  isplitl [Hst]; · iexact Hst
  isplitl [Hh]; · iexact Hh
  iintro ⟨Hst, Hh⟩
  iapply (wp_host d ops3 ops3_sub ops3_fresh (V4 m d) _ _)
  isplitl [Hb]; · iexact Hb
  isplitl [Hh]; · iexact Hh
  iintro ⟨Hb, Hh⟩
  rw [wp_bind]
  iapply (wp_dec m κ d _)
  isplitr; · iexact Hctx
  isplitl [Hst]; · iexact Hst
  isplitl [Hb]; · iexact Hb
  isplitl [Hh]; · iexact Hh
  isplitl [Hc1]; · iexact Hc1
  isplitl [Ht1]; · iexact Ht1
  iintro ⟨Hst, Hb, Hh⟩
  iapply (wp_host d ops4 ops4_sub ops4_fresh (V6 m d) _ _)
  isplitl [Hb]; · iexact Hb
  isplitl [Hh]; · iexact Hh
  iintro ⟨Hb, Hh⟩
  rw [wp_pure]; imodintro
  isplitl [Hst]; · iexact Hst
  isplitl [Hh]; · iexact Hh
  isplitl [Hb] <;> iassumption

def fq (d : Dev nD) (s' : Phys nD τ sig (Elt F)) : Prop := ∀ b ∈ ucRefs, s'.mem.mem (d, b) = V7 m d b

theorem hfin (d : Dev nD) (s' : Phys nD τ sig (Elt F)) : iprop(FIN m d ∗ SI s') ⊢ (⌜fq m d s'⌝ : sProp 𝕄) := by
  unfold FIN StableHlo.held fq
  iintro H
  ihave H' := (pointsTo_read_all ucRefs (fun b => ((d, b) : Loc nD τ sig)) (fun b => V7 m d b) s') $$ H
  icases H' with ⟨%h, -⟩
  ipureintro; exact h

/-- Every unscoped buffer ends at the last valuation, and every counter at zero. -/
def QC : PUnit × MemSt nD τ sig (Elt F) → Prop := fun r => (∀ d : Dev nD, ∀ b ∈ ucRefs, r.2.mem (d, b) = V7 m d b) ∧ r.2.sem = fun _ => 0

theorem run_main [∀ e, Nonempty (Elt F e)] (hi : ∀ d j, (iB m d j : BitVec 32).toNat < 8192) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (xB m) (iB m) (oB m) facts hi)
    (fun q _ => match q with | 0 => SparseCore.Cfg.VecSplit.of_plain (vecSplit (xB m) (iB m) (oB m)))
    m ρ main (fun d => G d) (FIN m) (u₀ (F := F)) (sep_elim_left.trans (hu₀ m)) (hmain m ρ) (fq m) (hfin m) (QC m) (fun _ h hz => ⟨h, hz⟩)

end Launch

end Cert.Proof.Vq

end
-- ==== Proof.Kern.lean ====
/-
  What the kernel's host lines leave in the buffers, read at an index over the extended reals.
-/
module

public import proofs.«01_k».proof.Proof.Pay
public import proofs.«01_k».proof.Proof.Run
public import Idealize.ShloMosaic.Lib.StableHlo.ReadAt
public import Idealize.ShloMosaic.Lib.Pipeline.ValueKit

@[expose] public section

set_option maxRecDepth 16384

noncomputable section

namespace Cert.Proof.Vq

open Cert.KernelIdeal Cert.KernelIdeal.Gen
open Idealize.ShloMosaic Idealize.ShloMosaic.TcCoe

/-! ## The quantities both programs compute -/

/-- A weight-normed matrix: each row scaled to the length its gain names. -/
def wn {r c : Nat} (v : Fin r → Fin c → EReal) (g : Fin r → EReal) (i : Fin r) (j : Fin c) : EReal :=
  Ideal.div (g i * v i j) (Ideal.sqrt (∑ x, v i x * v i x))

/-- The normalised codebook, transposed, -/
def cbn (cb : Fin 8192 → Fin 8 → EReal) (d : Fin 8) (k : Fin 8192) : EReal := Ideal.div (cb k d) (nrm (cb k))

/-- and its squared norms. -/
def cbs (cb : Fin 8192 → Fin 8 → EReal) (k : Fin 8192) : EReal := ∑ d, cbn cb d k * cbn cb d k

/-- The projected latents. -/
def lat (z : Fin 4 → Fin 1024 → Fin 4096 → EReal) (w : Fin 8 → Fin 1024 → EReal) (b : Fin 8 → EReal) (n : Fin 4) (d : Fin 8) (t : Fin 4096) : EReal :=
  (∑ i, w d i * z n i t) + b d

section

variable (m : (ℓ : Loc nD τ sig) → Buf (Elt Ideal) ℓ) (d : Dev nD)

/-- The arguments. -/
abbrev a0 : FVec Ideal S4x1024x4096 .f32 := m (d, tcr main_arg0)
abbrev a1 : FVec Ideal S8x1024 .f32 := m (d, tcr main_arg1)
abbrev a2 : FVec Ideal S8 .f32 := m (d, tcr main_arg2)
abbrev a3 : FVec Ideal S8 .f32 := m (d, tcr main_arg3)
abbrev a4 : FVec Ideal S1024x8 .f32 := m (d, tcr main_arg4)
abbrev a5 : FVec Ideal S1024 .f32 := m (d, tcr main_arg5)
abbrev a6 : FVec Ideal S1024 .f32 := m (d, tcr main_arg6)
abbrev a7 : FVec Ideal S8192x8 .f32 := m (d, tcr main_arg7)

theorem v8_at (i : Fin 8) (j : Fin 1024) : (V1 m d (tcr main_v8) : FVec Ideal S8x1024 .f32) (ix2 i j)
    = wn (fun i j => a1 m d (ix2 i j)) (fun i => a2 m d (ix1 i)) i j := by
  simp only [V1, ops1, tcr]
  after_reads_at
  rfl

theorem v17_at (i : Fin 1024) (j : Fin 8) : (V1 m d (tcr main_v17) : FVec Ideal S1024x8 .f32) (ix2 i j)
    = wn (fun i j => a4 m d (ix2 i j)) (fun i => a5 m d (ix1 i)) i j := by
  simp only [V1, ops1, tcr]
  after_reads_at
  rfl

theorem v26_at (i : Fin 8) (j : Fin 1) : (V1 m d (tcr main_v26) : FVec Ideal S8x1 .f32) (ix2 i j) = a3 m d (ix1 i) := by
  simp only [V1, ops1, tcr]
  after_reads_at
  rfl

theorem v27_at (i : Fin 8) (j : Fin 8192) : (V1 m d (tcr main_v27) : FVec Ideal S8x8192 .f32) (ix2 i j)
    = cbn (fun i j => a7 m d (ix2 i j)) i j := by
  simp only [V1, ops1, tcr]
  after_reads_at
  rfl

theorem v25_at (i : Fin 1) (j : Fin 8192) : (V1 m d (tcr main_v25) : FVec Ideal S1x8192 .f32) (ix2 i j)
    = cbs (fun i j => a7 m d (ix2 i j)) j := by
  simp only [V1, ops1, tcr]
  after_reads_at
  rfl

theorem v1_arg0 : V1 m d (tcr main_arg0) = a0 m d := by
  simp only [V1, ops1, tcr]
  after_reads_simp
  rfl

theorem v1_arg7 : V1 m d (tcr main_arg7) = a7 m d := by
  simp only [V1, ops1, tcr]
  after_reads_simp
  rfl

theorem v1_arg6 : V1 m d (tcr main_arg6) = a6 m d := by
  simp only [V1, ops1, tcr]
  after_reads_simp
  rfl

end

end Cert.Proof.Vq

end
-- ==== Proof.Enc.lean ====
/-
  The encode call's two arrays: the projected latents, and each latent's nearest codeword.
-/
module

public import proofs.«01_k».proof.Proof.Kern
public import Idealize.ShloMosaic.Lib.Pipeline.ValueKit

@[expose] public section

set_option maxRecDepth 16384

noncomputable section

namespace Cert.Proof.Vq

open Cert.KernelIdeal Cert.KernelIdeal.Gen
open Idealize.ShloMosaic Idealize.ShloMosaic.TcCoe

theorem after6 {F : FTy → Type} [FloatOps F] (V : Dev nD → Valuation τ sig (Elt F)) (n : ℕ) (c : Dev nD) (t : Fin cfg0.N) : (datE V n c).after 6 t
    = encIdx (blkE V c 0 t) (blkE V c 1 t) (blkE V c 2 t) (blkE V c 3 t) (blkE V c 4 t) := by
  dsimp only [datE]

section

variable (m : (ℓ : Loc nD τ sig) → Buf (Elt Ideal) ℓ) (d : Dev nD)

theorem idxE : ∀ t : Fin cfg0.N, (cfg0.win 0).index t = ![(cfg0.grid.coords t 0).val, 0, (cfg0.grid.coords t 1).val]
    ∧ (cfg0.win 1).index t = ![0, 0] ∧ (cfg0.win 2).index t = ![0, 0] ∧ (cfg0.win 3).index t = ![0, 0] ∧ (cfg0.win 4).index t = ![0, 0]
    ∧ (cfg0.win 5).index t = ![(cfg0.grid.coords t 0).val, 0, (cfg0.grid.coords t 1).val]
    ∧ (cfg0.win 6).index t = ![(cfg0.grid.coords t 0).val, 0, (cfg0.grid.coords t 1).val] := by
  decide +kernel

/-- A point's place on the first axis -/
def pb (t : Fin cfg0.N) : Fin 4 := ⟨(cfg0.grid.coords t 0).val, (cfg0.grid.coords t 0).isLt⟩
/-- and on the last, within its block. -/
def pt (t : Fin cfg0.N) (s : Fin 512) : Fin 4096 :=
  ⟨(cfg0.grid.coords t 1).val * 512 + s.val, by have h : (cfg0.grid.coords t 1).val < 8 := (cfg0.grid.coords t 1).isLt; omega⟩

theorem blkE0_at (t : Fin cfg0.N) (a : Fin 1) (i : Fin 1024) (s : Fin 512) :
    (blkE (V1 m) d 0 t : FVec Ideal S1x1024x512 .f32) (ix3 a i s) = a0 m d (ix3 (pb t) i (pt t s)) := by
  rw [← v1_arg0]
  blk_ext [blkE, idxE t, pb, pt]

theorem blkE1_at (t : Fin cfg0.N) (i : Fin 8) (j : Fin 1024) : (blkE (V1 m) d 1 t : FVec Ideal S8x1024 .f32) (ix2 i j)
    = wn (fun i j => a1 m d (ix2 i j)) (fun i => a2 m d (ix1 i)) i j := by
  rw [← v8_at]
  blk_ext [blkE, idxE t]

theorem blkE2_at (t : Fin cfg0.N) (i : Fin 8) (j : Fin 1) : (blkE (V1 m) d 2 t : FVec Ideal S8x1 .f32) (ix2 i j) = a3 m d (ix1 i) := by
  rw [← v26_at m d i j]
  blk_ext [blkE, idxE t]

theorem blkE3_at (t : Fin cfg0.N) (i : Fin 8) (j : Fin 8192) : (blkE (V1 m) d 3 t : FVec Ideal S8x8192 .f32) (ix2 i j)
    = cbn (fun i j => a7 m d (ix2 i j)) i j := by
  rw [← v27_at]
  blk_ext [blkE, idxE t]

theorem blkE4_at (t : Fin cfg0.N) (i : Fin 1) (j : Fin 8192) : (blkE (V1 m) d 4 t : FVec Ideal S1x8192 .f32) (ix2 i j)
    = cbs (fun i j => a7 m d (ix2 i j)) j := by
  rw [← v25_at m d i j]
  blk_ext [blkE, idxE t]

/-- The latents, of the launch's arguments. -/
def latK (n : Fin 4) (e : Fin 8) (t : Fin 4096) : EReal :=
  lat (fun n i t => a0 m d (ix3 n i t)) (wn (fun i j => a1 m d (ix2 i j)) (fun i => a2 m d (ix1 i))) (fun i => a3 m d (ix1 i)) n e t

/-- Their distances to the codewords. -/
def dstK (n : Fin 4) (t : Fin 4096) : Fin 8192 → EReal :=
  dst (fun e => latK m d n e t) (cbn fun i j => a7 m d (ix2 i j)) (cbs fun i j => a7 m d (ix2 i j))

theorem pay2_blk (t : Fin cfg0.N) (e : Fin 8) (s : Fin 512) :
    k0_pay2 (F := Ideal) (blkE (V1 m) d 0 t) (blkE (V1 m) d 1 t) (blkE (V1 m) d 2 t) (ix2 e s) = latK m d (pb t) e (pt t s) := by
  rw [pay2_at]
  exact congrArg₂ (· + ·) (Finset.sum_congr rfl fun i _ => congrArg₂ (· * ·) (blkE1_at m d t e i) (blkE0_at m d t 0 i s)) (blkE2_at m d t e 0)

theorem pay4_blk (t : Fin cfg0.N) (s : Fin 512) (k : Fin 8192) :
    k0_pay4 (F := Ideal) (blkE (V1 m) d 0 t) (blkE (V1 m) d 1 t) (blkE (V1 m) d 2 t) (blkE (V1 m) d 3 t) (blkE (V1 m) d 4 t) (ix2 s k)
      = dstK m d (pb t) (pt t s) k := by
  rw [pay4_at]
  exact congrFun (congr (congr (congrArg dst (funext fun e => pay2_blk m d t e s)) (funext fun e => funext fun k => blkE3_at m d t e k))
    (funext fun k => blkE4_at m d t 0 k)) k

/-- The latents' array. -/
theorem lat_arr : (datE (V1 m) 0 d).arrAt 5 cfg0.N = fun j : S4x8x4096.Idx => latK m d (j 0) (j 1) (j 2) := by
  refine (datE (V1 m) 0 d).arrAt_eq_of_covers 5 _ (by decide +kernel) fun t hf y => ?_
  show k0_pay3 (F := Ideal) (blkE (V1 m) d 0 t) (blkE (V1 m) d 1 t) (blkE (V1 m) d 2 t) _ = _
  have hy : ((cfg0.win 5).blk t).view.emb y = (ix3 (pb t) (y 1) (pt t (y 2)) : S4x8x4096.Idx) := by
    blk_ext [idxE t, pb, pt]
  have hy' : (y : S1x8x512.Idx) = ix3 (y 0) (y 1) (y 2) := by
    funext a; fin_cases a <;> rfl
  rw [hy]
  refine (congrArg (k0_pay3 (F := Ideal) (blkE (V1 m) d 0 t) (blkE (V1 m) d 1 t) (blkE (V1 m) d 2 t)) hy').trans ?_
  exact ((pay3_at _ _ _ _ _ _).trans (pay2_at _ _ _ _ _).symm).trans (pay2_blk m d t (y 1) (y 2))

/-- The indices' array: each entry names the nearest codeword. -/
theorem idx_arr (j : S4x1x4096.Idx) : ∃ k : Fin 8192, ((datE (V1 m) 0 d).arrAt 6 cfg0.N : Vec Ideal S4x1x4096 .i32) j = BitVec.ofNat 32 k.val
    ∧ IsNear (dstK m d (j 0) (j 2)) k := by
  refine (datE (V1 m) 0 d).arrAt_forall_of_covers 6 (fun (j : S4x1x4096.Idx) (v : BitVec 32) => ∃ k : Fin 8192, v = BitVec.ofNat 32 k.val
    ∧ IsNear (dstK m d (j 0) (j 2)) k) (by decide +kernel) (fun t hf y => ?_) j
  have hy : ((cfg0.win 6).blk t).view.emb y = (ix3 (pb t) (y 1) (pt t (y 2)) : S4x1x4096.Idx) := by
    blk_ext [idxE t, pb, pt]
  have hy' : (y : S1x1x512.Idx) = ix3 (y 0) (y 1) (y 2) := by
    funext a; fin_cases a <;> rfl
  rw [hy]
  obtain ⟨k, h1, h2⟩ := pay1_near (k0_pay4 (F := Ideal) (blkE (V1 m) d 0 t) (blkE (V1 m) d 1 t) (blkE (V1 m) d 2 t) (blkE (V1 m) d 3 t) (blkE (V1 m) d 4 t))
    (k0_pay5 (F := Ideal) (blkE (V1 m) d 0 t) (blkE (V1 m) d 1 t) (blkE (V1 m) d 2 t) (blkE (V1 m) d 3 t) (blkE (V1 m) d 4 t))
    (fun s k => pay5_at _ _ _ _ _ s k) (y 0) (y 1) (y 2)
  refine ⟨k, ?_, ?_⟩
  · blk_simp
    rw [after6]
    exact (congrArg (encIdx (F := Ideal) (blkE (V1 m) d 0 t) (blkE (V1 m) d 1 t) (blkE (V1 m) d 2 t) (blkE (V1 m) d 3 t) (blkE (V1 m) d 4 t)) hy').trans h1
  · have e : (fun j => k0_pay4 (F := Ideal) (blkE (V1 m) d 0 t) (blkE (V1 m) d 1 t) (blkE (V1 m) d 2 t) (blkE (V1 m) d 3 t) (blkE (V1 m) d 4 t) (ix2 (y 2) j))
        = dstK m d (pb t) (pt t (y 2)) := funext fun k => pay4_blk m d t (y 2) k
    exact Eq.mp (congrFun (congrArg (IsNear (N := 8192)) e) k) h2

end

end Cert.Proof.Vq

end
-- ==== Proof.Dec.lean ====
/-
  The kernel's results after the whole run, read at an index over the extended reals.
-/
module

public import proofs.«01_k».proof.Proof.Enc
public import Idealize.ShloMosaic.Lib.StableHlo.ReadAt
public import Idealize.ShloMosaic.Lib.Pipeline.ValueKit

@[expose] public section

set_option maxRecDepth 16384

noncomputable section

namespace Cert.Proof.Vq

open Cert.KernelIdeal Cert.KernelIdeal.Gen
open Idealize.ShloMosaic Idealize.ShloMosaic.TcCoe

section

variable (m : (ℓ : Loc nD τ sig) → Buf (Elt Ideal) ℓ) (d : Dev nD)

/-- The latents and the indices as the encode call leaves them. -/
abbrev idxK : Vec Ideal S4x1x4096 .i32 := (datE (V1 m) 0 d).arrAt 6 cfg0.N
abbrev latA : FVec Ideal S4x8x4096 .f32 := (datE (V1 m) 0 d).arrAt 5 cfg0.N

theorem V2_v28_1 : V2 m d (tcr main_v28_1) = idxK m d := by
  unfold V2
  rw [Function.update_self]

theorem V2_v28_0 : V2 m d (tcr main_v28_0) = latA m d := by
  unfold V2
  rw [Function.update_of_ne (by decide), Function.update_self]

theorem V2_of {b : Ref sig .tc} (h0 : b ≠ main_v28_0) (h1 : b ≠ main_v28_1) : V2 m d (tcr b) = V1 m d (tcr b) := by
  unfold V2
  rw [Function.update_of_ne (fun e => h1 (Proc.devRef_injective _ e)), Function.update_of_ne (fun e => h0 (Proc.devRef_injective _ e))]

theorem V4_of {b : Ref sig .tc} (h : b ≠ main_v33) : V4 m d (tcr b) = V3 m d (tcr b) := by
  unfold V4
  rw [Function.update_of_ne (fun e => h (Proc.devRef_injective _ e))]

theorem V6_of {b : Ref sig .tc} (h : b ≠ main_v36) : V6 m d (tcr b) = V5 m d (tcr b) := by
  unfold V6
  rw [Function.update_of_ne (fun e => h (Proc.devRef_injective _ e))]

theorem v32_at (a : Fin 1) (n : Fin 4) (t : Fin 4096) : (V3 m d (tcr main_v32) : Vec Ideal S1x16384 .i32) (ix2 a ⟨n.val * 4096 + t.val, by omega⟩)
    = idxK m d (ix3 n 0 t) := by
  rw [← V2_v28_1]
  simp only [V3, ops2, tcr]
  after_reads_at

theorem v31_at (k : Fin 8192) (e : Fin 128) (he : e.val < 8) : (V3 m d (tcr main_v31) : FVec Ideal S8192x128 .f32) (ix2 k e)
    = a7 m d (ix2 k ⟨e.val, he⟩) := by
  rw [← v1_arg7, ← V2_of m d (by decide) (by decide)]
  simp only [V3, ops2, tcr]
  after_reads_at
  exact dif_pos he

theorem hi (d : Dev nD) (j) : (iB m d j : BitVec 32).toNat < 8192 := by
  have : ∃ i, (iB m d j : BitVec 32) = idxK m d i := by
    rw [← V2_v28_1]
    simp only [iB, V3, ops2, tcr]
    after_reads_simp
    exact ⟨_, rfl⟩
  obtain ⟨i, h⟩ := this
  obtain ⟨k, hk, -⟩ := idx_arr m d i
  rw [h.trans hk, BitVec.toNat_ofNat]
  omega

/-! ## The gathered rows and the decode call's entry -/

theorem v33_at (n : Fin 4) (t : Fin 4096) (e : Fin 128) (he : e.val < 8) :
    (V4 m d (tcr main_v33) : FVec Ideal S16384x128 .f32) (ix2 ⟨n.val * 4096 + t.val, by omega⟩ e)
      = a7 m d (ix2 (entry (idxK m d (ix3 n 0 t))) ⟨e.val, he⟩) := by
  unfold V4
  rw [Function.update_self, ← v31_at m d _ e he, ← v32_at m d 0 n t]
  rfl

theorem v34_at (n : Fin 4) (t : Fin 4096) (e : Fin 128) (he : e.val < 8) :
    (V5 m d (tcr main_v34) : FVec Ideal S4x4096x128 .f32) (ix3 n t e)
      = a7 m d (ix2 (entry (idxK m d (ix3 n 0 t))) ⟨e.val, he⟩) := by
  rw [← v33_at m d n t e he]
  simp only [V5, ops3, tcr]
  after_reads_at

theorem v35_at (o : Fin 1024) (a : Fin 1) : (V5 m d (tcr main_v35) : FVec Ideal S1024x1 .f32) (ix2 o a) = a6 m d (ix1 o) := by
  have h3 : V3 m d (tcr main_arg6) = V2 m d (tcr main_arg6) := by
    simp only [V3, ops2, tcr]
    after_reads_simp
  rw [← v1_arg6, ← V2_of m d (by decide) (by decide), ← h3, ← V4_of m d (by decide)]
  simp only [V5, ops3, tcr]
  after_reads_at

theorem v5_v17 : V5 m d (tcr main_v17) = V1 m d (tcr main_v17) := by
  have h5 : V5 m d (tcr main_v17) = V4 m d (tcr main_v17) := by
    simp only [V5, ops3, tcr]
    after_reads_simp
  have h3 : V3 m d (tcr main_v17) = V2 m d (tcr main_v17) := by
    simp only [V3, ops2, tcr]
    after_reads_simp
  rw [h5, V4_of m d (by decide), h3, V2_of m d (by decide) (by decide)]

theorem idxD : ∀ t : Fin cfg2.N, (cfg2.win 0).index t = ![(cfg2.grid.coords t 0).val, (cfg2.grid.coords t 1).val, 0]
    ∧ (cfg2.win 1).index t = ![0, 0] ∧ (cfg2.win 2).index t = ![0, 0]
    ∧ (cfg2.win 3).index t = ![(cfg2.grid.coords t 0).val, 0, (cfg2.grid.coords t 1).val] := by
  decide +kernel

/-- A point's place on the first axis -/
def qb (t : Fin cfg2.N) : Fin 4 := ⟨(cfg2.grid.coords t 0).val, (cfg2.grid.coords t 0).isLt⟩
/-- and on the last, within its block. -/
def qt (t : Fin cfg2.N) (s : Fin 512) : Fin 4096 :=
  ⟨(cfg2.grid.coords t 1).val * 512 + s.val, by have h : (cfg2.grid.coords t 1).val < 8 := (cfg2.grid.coords t 1).isLt; omega⟩

theorem blkD0_at (t : Fin cfg2.N) (a : Fin 1) (s : Fin 512) (e : Fin 128) (he : e.val < 8) :
    (blkD (V5 m) d 0 t : FVec Ideal S1x512x128 .f32) (ix3 a s e) = a7 m d (ix2 (entry (idxK m d (ix3 (qb t) 0 (qt t s)))) ⟨e.val, he⟩) := by
  rw [← v34_at m d _ _ e he]
  blk_ext [blkD, idxD t, qb, qt]

theorem blkD1_at (t : Fin cfg2.N) (o : Fin 1024) (e : Fin 8) : (blkD (V5 m) d 1 t : FVec Ideal S1024x8 .f32) (ix2 o e)
    = wn (fun i j => a4 m d (ix2 i j)) (fun i => a5 m d (ix1 i)) o e := by
  rw [← v17_at, ← v5_v17]
  blk_ext [blkD, idxD t]

theorem blkD2_at (t : Fin cfg2.N) (o : Fin 1024) (a : Fin 1) : (blkD (V5 m) d 2 t : FVec Ideal S1024x1 .f32) (ix2 o a) = a6 m d (ix1 o) := by
  rw [← v35_at m d o a]
  blk_ext [blkD, idxD t]

/-- The decoded output, of the launch's arguments and the indices. -/
def outK (n : Fin 4) (o : Fin 1024) (t : Fin 4096) : EReal :=
  (∑ e : Fin 8, wn (fun i j => a4 m d (ix2 i j)) (fun i => a5 m d (ix1 i)) o e * a7 m d (ix2 (entry (idxK m d (ix3 n 0 t))) e)) + a6 m d (ix1 o)

/-- The decode call's array. -/
theorem out_arr : (datD (V5 m) 1 d).arrAt 3 cfg2.N = fun j : S4x1024x4096.Idx => outK m d (j 0) (j 1) (j 2) := by
  refine (datD (V5 m) 1 d).arrAt_eq_of_covers 3 _ (by decide +kernel) fun t hf y => ?_
  show k2_pay1 (F := Ideal) (blkD (V5 m) d 0 t) (blkD (V5 m) d 1 t) (blkD (V5 m) d 2 t) _ = _
  have hy : ((cfg2.win 3).blk t).view.emb y = (ix3 (qb t) (y 1) (qt t (y 2)) : S4x1024x4096.Idx) := by
    blk_ext [idxD t, qb, qt]
  have hy' : (y : S1x1024x512.Idx) = ix3 (y 0) (y 1) (y 2) := by
    funext a; fin_cases a <;> rfl
  rw [hy]
  refine (congrArg (k2_pay1 (F := Ideal) (blkD (V5 m) d 0 t) (blkD (V5 m) d 1 t) (blkD (V5 m) d 2 t)) hy').trans ?_
  refine (pay21_at _ _ _ _ _ _).trans ?_
  exact congrArg₂ (· + ·) (Finset.sum_congr rfl fun e _ => congrArg₂ (· * ·) (blkD1_at m d t (y 1) e) (blkD0_at m d t 0 (y 2) ⟨e.val, by omega⟩ e.isLt)) (blkD2_at m d t (y 1) 0)

/-! ## The results -/

theorem res_v36 : V7 m d (tcr main_v36) = fun j : S4x1024x4096.Idx => outK m d (j 0) (j 1) (j 2) := by
  rw [← out_arr]
  have h : V7 m d (tcr main_v36) = V6 m d (tcr main_v36) := by
    simp only [V7, ops4, tcr]
    after_reads_simp
  rw [h]
  unfold V6
  rw [Function.update_self]

theorem V7_of_V3 {b : Ref sig .tc} (h4 : V7 m d (tcr b) = V6 m d (tcr b)) (h3 : V5 m d (tcr b) = V4 m d (tcr b))
    (hb : b ≠ main_v36) (hb' : b ≠ main_v33) : V7 m d (tcr b) = V3 m d (tcr b) := by
  rw [h4, V6_of m d hb, h3, V4_of m d hb']

theorem res_v28_0 : V7 m d (tcr main_v28_0) = fun j : S4x8x4096.Idx => latK m d (j 0) (j 1) (j 2) := by
  rw [V7_of_V3 m d (by simp only [V7, ops4, tcr]; after_reads_simp) (by simp only [V5, ops3, tcr]; after_reads_simp) (by decide) (by decide)]
  have h : V3 m d (tcr main_v28_0) = V2 m d (tcr main_v28_0) := by
    simp only [V3, ops2, tcr]; after_reads_simp
  rw [h, V2_v28_0, ← lat_arr]

theorem res_v29 : V7 m d (tcr main_v29) = fun j : S4x4096.Idx => idxK m d (ix3 (j 0) 0 (j 1)) := by
  rw [V7_of_V3 m d (by simp only [V7, ops4, tcr]; after_reads_simp) (by simp only [V5, ops3, tcr]; after_reads_simp) (by decide) (by decide)]
  funext j
  rw [← V2_v28_1]
  idx_vars j
  simp only [V3, ops2, tcr]
  after_reads_at

theorem res_v37 : V7 m d (tcr main_v37) = fun _ : S4.Idx => Ideal.ofBits .f32 0x00000000#32 := by
  simp only [V7, ops4, tcr]
  after_reads_simp
  rfl

theorem res_v38 : V7 m d (tcr main_v38) = fun _ : S4.Idx => Ideal.ofBits .f32 0x00000000#32 := by
  simp only [V7, ops4, tcr]
  after_reads_simp
  rfl

end

end Cert.Proof.Vq

end
-- ==== Proof.Fin.lean ====
/-
  The kernel's run, read at its arguments and its results.
-/
module

public import proofs.«01_k».proof.Proof.Dec

@[expose] public section

set_option maxRecDepth 16384

noncomputable section

namespace Cert.Proof.Vq

open Cert.KernelIdeal Cert.KernelIdeal.Gen
open Idealize.ShloMosaic Idealize.ShloMosaic.TcCoe Idealize.SL.Sem

section

variable (m : (ℓ : Loc nD τ sig) → Buf (Elt Ideal) ℓ) (d : Dev nD)

theorem V7_arg {b : Ref sig .tc} (h7 : V7 m d (tcr b) = V6 m d (tcr b)) (h5 : V5 m d (tcr b) = V4 m d (tcr b))
    (h3 : V3 m d (tcr b) = V2 m d (tcr b)) (h1 : V1 m d (tcr b) = V0 m d (tcr b))
    (hb : b ≠ main_v36) (hb' : b ≠ main_v33) (hb0 : b ≠ main_v28_0) (hb1 : b ≠ main_v28_1) : V7 m d (tcr b) = m (d, tcr b) := by
  rw [V7_of_V3 m d h7 h5 hb hb', h3, V2_of m d hb0 hb1, h1]
  rfl

theorem V7_arg0 : V7 m d (tcr main_arg0) = m (d, tcr main_arg0) :=
  V7_arg m d (by simp only [V7, ops4, tcr]; after_reads_simp) (by simp only [V5, ops3, tcr]; after_reads_simp)
    (by simp only [V3, ops2, tcr]; after_reads_simp) (by simp only [V1, ops1, tcr]; after_reads_simp) (by decide) (by decide) (by decide) (by decide)
theorem V7_arg1 : V7 m d (tcr main_arg1) = m (d, tcr main_arg1) :=
  V7_arg m d (by simp only [V7, ops4, tcr]; after_reads_simp) (by simp only [V5, ops3, tcr]; after_reads_simp)
    (by simp only [V3, ops2, tcr]; after_reads_simp) (by simp only [V1, ops1, tcr]; after_reads_simp) (by decide) (by decide) (by decide) (by decide)
theorem V7_arg2 : V7 m d (tcr main_arg2) = m (d, tcr main_arg2) :=
  V7_arg m d (by simp only [V7, ops4, tcr]; after_reads_simp) (by simp only [V5, ops3, tcr]; after_reads_simp)
    (by simp only [V3, ops2, tcr]; after_reads_simp) (by simp only [V1, ops1, tcr]; after_reads_simp) (by decide) (by decide) (by decide) (by decide)
theorem V7_arg3 : V7 m d (tcr main_arg3) = m (d, tcr main_arg3) :=
  V7_arg m d (by simp only [V7, ops4, tcr]; after_reads_simp) (by simp only [V5, ops3, tcr]; after_reads_simp)
    (by simp only [V3, ops2, tcr]; after_reads_simp) (by simp only [V1, ops1, tcr]; after_reads_simp) (by decide) (by decide) (by decide) (by decide)
theorem V7_arg4 : V7 m d (tcr main_arg4) = m (d, tcr main_arg4) :=
  V7_arg m d (by simp only [V7, ops4, tcr]; after_reads_simp) (by simp only [V5, ops3, tcr]; after_reads_simp)
    (by simp only [V3, ops2, tcr]; after_reads_simp) (by simp only [V1, ops1, tcr]; after_reads_simp) (by decide) (by decide) (by decide) (by decide)
theorem V7_arg5 : V7 m d (tcr main_arg5) = m (d, tcr main_arg5) :=
  V7_arg m d (by simp only [V7, ops4, tcr]; after_reads_simp) (by simp only [V5, ops3, tcr]; after_reads_simp)
    (by simp only [V3, ops2, tcr]; after_reads_simp) (by simp only [V1, ops1, tcr]; after_reads_simp) (by decide) (by decide) (by decide) (by decide)
theorem V7_arg6 : V7 m d (tcr main_arg6) = m (d, tcr main_arg6) :=
  V7_arg m d (by simp only [V7, ops4, tcr]; after_reads_simp) (by simp only [V5, ops3, tcr]; after_reads_simp)
    (by simp only [V3, ops2, tcr]; after_reads_simp) (by simp only [V1, ops1, tcr]; after_reads_simp) (by decide) (by decide) (by decide) (by decide)
theorem V7_arg7 : V7 m d (tcr main_arg7) = m (d, tcr main_arg7) :=
  V7_arg m d (by simp only [V7, ops4, tcr]; after_reads_simp) (by simp only [V5, ops3, tcr]; after_reads_simp)
    (by simp only [V3, ops2, tcr]; after_reads_simp) (by simp only [V1, ops1, tcr]; after_reads_simp) (by decide) (by decide) (by decide) (by decide)

instance (e : EltTy) : Nonempty (Elt Ideal e) := by
  cases e <;> first | exact ⟨(0 : EReal)⟩ | exact ⟨0⟩

/-- Every run ends at the last valuation. -/
theorem run_val (ρ : Dev nD → PrngReg) : θ_run (Cert.KernelIdeal.defs (F := Ideal)) (Cert.KernelIdeal.threads (F := Ideal)) ⟨m, fun _ => 0, ρ⟩
    (fun r => (∀ c : Dev nD, ∀ b : Ref sig .tc, tcr b ∈ ucRefs → r.2.mem ((c.tc : Thread nD τ).loc b) = V7 m c (tcr b)) ∧ r.2.sem = fun _ => 0) :=
  (θ_run Cert.KernelIdeal.defs _ _).mono (fun r h => ⟨fun c b hb => h.1 c (tcr b) hb, h.2⟩) (run_main m ρ (hi m))

theorem uc0 : tcr main_arg0 ∈ ucRefs ∧ tcr main_arg1 ∈ ucRefs ∧ tcr main_arg2 ∈ ucRefs ∧ tcr main_arg3 ∈ ucRefs ∧ tcr main_arg4 ∈ ucRefs
    ∧ tcr main_arg5 ∈ ucRefs ∧ tcr main_arg6 ∈ ucRefs ∧ tcr main_arg7 ∈ ucRefs := by decide +kernel
theorem uc1 : tcr main_v36 ∈ ucRefs ∧ tcr main_v37 ∈ ucRefs ∧ tcr main_v38 ∈ ucRefs ∧ tcr main_v29 ∈ ucRefs ∧ tcr main_v28_0 ∈ ucRefs := by decide +kernel

end

end Cert.Proof.Vq

end
-- ==== Proof.Pc.lean ====
/-
  What the precondition says of the latents: every one of them is a real number.
-/
module

public import proofs.«01_k».proof.Defs
public import proofs.«01_k».proof.Proof.Gen.Pre_one_nearest
public import proofs.«01_k».proof.Proof.Kern
public import Idealize.ShloMosaic.PureOps.Reduce

@[expose] public section

set_option maxRecDepth 16384

noncomputable section

namespace Cert.Proof.Pre

open Cert.Pre_one_nearest Cert.Pre_one_nearest.Gen
open Idealize.ShloMosaic
open Cert.Proof.Vq (wn lat)

theorem and_left : ∀ a b : BitVec 1, IntOp.andi a b = 1#1 → a = 1#1 := by decide
theorem and_right : ∀ a b : BitVec 1, IntOp.andi a b = 1#1 → b = 1#1 := by decide

/-- A conjunction over a set that is one has every member one. -/
theorem fold_and {ι : Type} [DecidableEq ι] (s : Finset ι) (f : ι → BitVec 1) (c : BitVec 1) (h : s.fold IntOp.andi c f = 1#1) : ∀ i ∈ s, f i = 1#1 := by
  induction s using Finset.induction_on with
  | empty => exact fun i hi => absurd hi (Finset.notMem_empty i)
  | insert a s ha ih =>
    rw [Finset.fold_insert ha] at h
    intro i hi
    rcases Finset.mem_insert.1 hi with rfl | hi
    · exact and_left _ _ h
    · exact ih (and_right _ _ h) i hi

/-- A word array whose conjunction over all axes is one is one everywhere. -/
theorem all_one (x : IVec S4x8x4096 1) (c : IVec S_ 1) (h : Host.reduce IntOp.andi x c reducesTo_S4x8x4096_S_d0_1_2 h_S_ ix0 = 1#1) (i : S4x8x4096.Idx) :
    x i = 1#1 := by
  rw [Host.reduce_eq_fold] at h
  refine fold_and _ _ _ h i (Finset.mem_filter.2 ⟨Finset.mem_univ _, ?_⟩)
  funext a
  exact a.elim0

theorem part2_left (z : FVec Ideal S4x8x4096 .f32) (w : FVec Ideal S16384x2x4096 .f32) (u : FVec Ideal S_ .f32)
    (h : fn_part2 (F := Ideal) z w u = fun _ => 1#1) :
    Host.reduce IntOp.andi (cmpf .olt (Host.absf z) (broadcastInDim S4x8x4096 ![] bcast_S_S4x8x4096 (constant (F := Ideal) S_ .f32 0x7F800000#32))) (constantI S_ 1 1#1)
      reducesTo_S4x8x4096_S_d0_1_2 h_S_ ix0 = 1#1 := by
  have h0 := congrFun h ix0
  unfold fn_part2 at h0
  exact and_left _ _ h0

theorem part1_left (x : FVec Ideal S8192x8 .f32) (z : FVec Ideal S4x8x4096 .f32) (w : FVec Ideal S16384x8 .f32) (u : FVec Ideal S8192x1 .f32)
    (h : fn_part1 (F := Ideal) x z w u = fun _ => 1#1) :
    Host.reduce IntOp.andi (cmpf .olt (Host.absf z) (broadcastInDim S4x8x4096 ![] bcast_S_S4x8x4096 (constant (F := Ideal) S_ .f32 0x7F800000#32))) (constantI S_ 1 1#1)
      reducesTo_S4x8x4096_S_d0_1_2 h_S_ ix0 = 1#1 := by
  unfold fn_part1 at h
  exact part2_left z _ _ h

/-- The latents as the predicate computes them. -/
def zfn (x0 : FVec Ideal S4x1024x4096 .f32) (x1 : FVec Ideal S8x1024 .f32) (x2 : FVec Ideal S8 .f32) (x3 : FVec Ideal S8 .f32) : FVec Ideal S4x8x4096 .f32 :=
  addf (transpose S4x8x4096 [0, 2, 1] (Host.dotGeneral dot_S4x1024x4096_S8x1024_S4x4096x8_1_1_02_0_n_n none x0
      (Host.divf (mulf (broadcastInDim S8x1024 ![0, 1] bcast_S8x1_S8x1024_0_1 (broadcastInDim S8x1 ![0] bcast_S8_S8x1_0 x2)) x1)
        (broadcastInDim S8x1024 ![0, 1] bcast_S8x1_S8x1024_0_1 (Host.sqrt (broadcastInDim S8x1 ![0] bcast_S8_S8x1_0
          (Host.reduceAdd (mulf x1 x1) (constant S_ .f32 0x00000000#32) reducesTo_S8x1024_S8_d1 h_S_))))))
      transposes_S4x4096x8_S4x8x4096_0_2_1)
    (broadcastInDim S4x8x4096 ![0, 1, 2] bcast_S1x8x1_S4x8x4096_0_1_2 (broadcastInDim S1x8x1 ![1] bcast_S8_S1x8x1_1 x3))

theorem zfn_at (x0 : FVec Ideal S4x1024x4096 .f32) (x1 : FVec Ideal S8x1024 .f32) (x2 : FVec Ideal S8 .f32) (x3 : FVec Ideal S8 .f32)
    (n : Fin 4) (e : Fin 8) (t : Fin 4096) : zfn x0 x1 x2 x3 (ix3 n e t)
    = lat (fun n i t => x0 (ix3 n i t)) (wn (fun i j => x1 (ix2 i j)) (fun i => x2 (ix1 i))) (fun i => x3 (ix1 i)) n e t := by
  pointwise [zfn]
  unfold lat wn
  refine congrArg (· + _) (Finset.sum_congr rfl fun x _ => ?_)
  exact mul_comm _ _

theorem fn_left (x0 : FVec Ideal S4x1024x4096 .f32) (x1 : FVec Ideal S8x1024 .f32) (x2 : FVec Ideal S8 .f32) (x3 : FVec Ideal S8 .f32) (x4 : FVec Ideal S1024x8 .f32)
    (x5 : FVec Ideal S1024 .f32) (x6 : FVec Ideal S1024 .f32) (x7 : FVec Ideal S8192x8 .f32) (h : fn (F := Ideal) x0 x1 x2 x3 x4 x5 x6 x7 = fun _ => 1#1) :
    Host.reduce IntOp.andi (cmpf .olt (Host.absf (zfn x0 x1 x2 x3)) (broadcastInDim S4x8x4096 ![] bcast_S_S4x8x4096 (constant (F := Ideal) S_ .f32 0x7F800000#32))) (constantI S_ 1 1#1)
      reducesTo_S4x8x4096_S_d0_1_2 h_S_ ix0 = 1#1 := by
  unfold fn at h
  exact part1_left x7 (zfn x0 x1 x2 x3) _ _ h

/-- A magnitude below infinity is a real number's. -/
theorem real_of_abs (a : EReal) (h : FloatOps.cmpf (F := Ideal) (φ := .f32) .olt (FloatOps.absf (F := Ideal) (φ := .f32) a) (Ideal.ofBits .f32 0x7F800000#32) = 1#1) :
    a ≠ ⊤ ∧ a ≠ ⊥ := by
  have ht : Ideal.ofBits .f32 0x7F800000#32 = ⊤ := by simp [Ideal.ofBits, Ideal.ieee]
  rw [ht] at h
  constructor
  · rintro rfl
    revert h
    simp [FloatOps.cmpf, FloatOps.absf, Ideal.cmp]
  · rintro rfl
    revert h
    simp [FloatOps.cmpf, FloatOps.absf, Ideal.cmp]

/-- Under the precondition every latent is a real number. -/
theorem lat_real (x0 : FVec Ideal S4x1024x4096 .f32) (x1 : FVec Ideal S8x1024 .f32) (x2 : FVec Ideal S8 .f32) (x3 : FVec Ideal S8 .f32) (x4 : FVec Ideal S1024x8 .f32)
    (x5 : FVec Ideal S1024 .f32) (x6 : FVec Ideal S1024 .f32) (x7 : FVec Ideal S8192x8 .f32) (h : fn (F := Ideal) x0 x1 x2 x3 x4 x5 x6 x7 = fun _ => 1#1)
    (n : Fin 4) (e : Fin 8) (t : Fin 4096) :
    lat (fun n i t => x0 (ix3 n i t)) (wn (fun i j => x1 (ix2 i j)) (fun i => x2 (ix1 i))) (fun i => x3 (ix1 i)) n e t ≠ ⊤
    ∧ lat (fun n i t => x0 (ix3 n i t)) (wn (fun i j => x1 (ix2 i j)) (fun i => x2 (ix1 i))) (fun i => x3 (ix1 i)) n e t ≠ ⊥ := by
  have h1 := all_one _ _ (fn_left x0 x1 x2 x3 x4 x5 x6 x7 h) (ix3 n e t)
  have h2 := real_of_abs (zfn x0 x1 x2 x3 (ix3 n e t)) h1
  rwa [zfn_at] at h2

end Cert.Proof.Pre

end
-- ==== Proof.Ref.lean ====
/-
  The reference's run: its host operations in five stretches, every buffer after them.
-/
module

public import proofs.«01_k».proof.Defs
public import proofs.«01_k».proof.Proof.Gen.ReferenceIdeal
public import Idealize.ShloMosaic.Lib.StableHlo.Run
public import Idealize.ShloMosaic.Lib.StableHlo.RunRead

@[expose] public section

set_option maxRecDepth 16384

noncomputable section

namespace Cert.Proof.Rf

open Cert.ReferenceIdeal Cert.ReferenceIdeal.Gen
open Idealize.ShloMosaic Idealize.ShloMosaic.TcCoe Idealize.ShloMosaic.StableHlo Idealize.SL.Sem

variable {F : FTy → Type} [FloatOps F]

/-- The projected latents. -/
def rA : List (HloOp τ sig (Elt F)) :=
  [StableHlo.binary main_arg1 main_arg1 main_v0 (mulf : (⟨S8x1024, .f32⟩ : BufTy).Contents (Elt F) → (⟨S8x1024, .f32⟩ : BufTy).Contents (Elt F) → (⟨S8x1024, .f32⟩ : BufTy).Contents (Elt F)),
   StableHlo.nullary main_cst (constant S_ .f32 0x00000000#32),
   StableHlo.binary main_v0 main_cst main_v1 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
   StableHlo.unary main_v1 main_v2 (broadcastInDim S8x1 ![0] bcast_S8_S8x1_0 : (⟨S8, .f32⟩ : BufTy).Contents (Elt F) → (⟨S8x1, .f32⟩ : BufTy).Contents (Elt F)),
   StableHlo.unary main_v2 main_v3 (Host.sqrt : (⟨S8x1, .f32⟩ : BufTy).Contents (Elt F) → (⟨S8x1, .f32⟩ : BufTy).Contents (Elt F)),
   StableHlo.unary main_arg2 main_v4 (broadcastInDim S8x1 ![0] bcast_S8_S8x1_0 : (⟨S8, .f32⟩ : BufTy).Contents (Elt F) → (⟨S8x1, .f32⟩ : BufTy).Contents (Elt F)),
   StableHlo.unary main_v4 main_v5 (broadcastInDim S8x1024 ![0, 1] bcast_S8x1_S8x1024_0_1 : (⟨S8x1, .f32⟩ : BufTy).Contents (Elt F) → (⟨S8x1024, .f32⟩ : BufTy).Contents (Elt F)),
   StableHlo.binary main_v5 main_arg1 main_v6 (mulf : (⟨S8x1024, .f32⟩ : BufTy).Contents (Elt F) → (⟨S8x1024, .f32⟩ : BufTy).Contents (Elt F) → (⟨S8x1024, .f32⟩ : BufTy).Contents (Elt F)),
   StableHlo.unary main_v3 main_v7 (broadcastInDim S8x1024 ![0, 1] bcast_S8x1_S8x1024_0_1 : (⟨S8x1, .f32⟩ : BufTy).Contents (Elt F) → (⟨S8x1024, .f32⟩ : BufTy).Contents (Elt F)),
   StableHlo.binary main_v6 main_v7 main_v8 (Host.divf : (⟨S8x1024, .f32⟩ : BufTy).Contents (Elt F) → (⟨S8x1024, .f32⟩ : BufTy).Contents (Elt F) → (⟨S8x1024, .f32⟩ : BufTy).Contents (Elt F)),
   StableHlo.binary main_arg0 main_v8 main_v9 ((fun l r => Host.dotGeneral dot_S4x1024x4096_S8x1024_S4x4096x8_1_1_02_0_n_n none l r) : (⟨S4x1024x4096, .f32⟩ : BufTy).Contents (Elt F) → (⟨S8x1024, .f32⟩ : BufTy).Contents (Elt F) → (⟨S4x4096x8, .f32⟩ : BufTy).Contents (Elt F)),
   StableHlo.unary main_v9 main_v10 ((transpose S4x8x4096 [0, 2, 1] · transposes_S4x4096x8_S4x8x4096_0_2_1) : (⟨S4x4096x8, .f32⟩ : BufTy).Contents (Elt F) → (⟨S4x8x4096, .f32⟩ : BufTy).Contents (Elt F)),
   StableHlo.unary main_arg3 main_v11 (broadcastInDim S1x8x1 ![1] bcast_S8_S1x8x1_1 : (⟨S8, .f32⟩ : BufTy).Contents (Elt F) → (⟨S1x8x1, .f32⟩ : BufTy).Contents (Elt F)),
   StableHlo.unary main_v11 main_v12 (broadcastInDim S4x8x4096 ![0, 1, 2] bcast_S1x8x1_S4x8x4096_0_1_2 : (⟨S1x8x1, .f32⟩ : BufTy).Contents (Elt F) → (⟨S4x8x4096, .f32⟩ : BufTy).Contents (Elt F)),
   StableHlo.binary main_v10 main_v12 main_v13 (addf : (⟨S4x8x4096, .f32⟩ : BufTy).Contents (Elt F) → (⟨S4x8x4096, .f32⟩ : BufTy).Contents (Elt F) → (⟨S4x8x4096, .f32⟩ : BufTy).Contents (Elt F))]

/-- The negated distances. -/
def rB : List (HloOp τ sig (Elt F)) :=
  [StableHlo.unary main_v13 main_v14 ((transpose S4x4096x8 [0, 2, 1] · transposes_S4x8x4096_S4x4096x8_0_2_1) : (⟨S4x8x4096, .f32⟩ : BufTy).Contents (Elt F) → (⟨S4x4096x8, .f32⟩ : BufTy).Contents (Elt F)),
   StableHlo.reshape main_v14 main_v15 (rfl : (.f32 : EltTy) = .f32) shapeCasts_S4x4096x8_S16384x8,
   StableHlo.binary main_v15 main_v15 main_call0_v0 (mulf : (⟨S16384x8, .f32⟩ : BufTy).Contents (Elt F) → (⟨S16384x8, .f32⟩ : BufTy).Contents (Elt F) → (⟨S16384x8, .f32⟩ : BufTy).Contents (Elt F)),
   StableHlo.nullary main_call0_cst (constant S_ .f32 0x00000000#32),
   StableHlo.binary main_call0_v0 main_call0_cst main_call0_v1 ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F)),
   StableHlo.unary main_call0_v1 main_call0_v2 ((broadcastInDim S16384x1 ![0] bcast_S16384_S16384x1_0) : (⟨S16384, .f32⟩ : BufTy).Contents (Elt F) → (⟨S16384x1, .f32⟩ : BufTy).Contents (Elt F)),
   StableHlo.unary main_call0_v2 main_v16 (Host.sqrt : (⟨S16384x1, .f32⟩ : BufTy).Contents (Elt F) → (⟨S16384x1, .f32⟩ : BufTy).Contents (Elt F)),
   StableHlo.nullary main_cst_0 (constant S_ .f32 0x2B8CBCCC#32),
   StableHlo.unary main_cst_0 main_v17 (broadcastInDim S16384x1 ![] bcast_S_S16384x1 : (⟨S_, .f32⟩ : BufTy).Contents (Elt F) → (⟨S16384x1, .f32⟩ : BufTy).Contents (Elt F)),
   StableHlo.binary main_v16 main_v17 main_v18 (maximumf : (⟨S16384x1, .f32⟩ : BufTy).Contents (Elt F) → (⟨S16384x1, .f32⟩ : BufTy).Contents (Elt F) → (⟨S16384x1, .f32⟩ : BufTy).Contents (Elt F)),
   StableHlo.unary main_v18 main_v19 (broadcastInDim S16384x8 ![0, 1] bcast_S16384x1_S16384x8_0_1 : (⟨S16384x1, .f32⟩ : BufTy).Contents (Elt F) → (⟨S16384x8, .f32⟩ : BufTy).Contents (Elt F)),
   StableHlo.binary main_v15 main_v19 main_v20 (Host.divf : (⟨S16384x8, .f32⟩ : BufTy).Contents (Elt F) → (⟨S16384x8, .f32⟩ : BufTy).Contents (Elt F) → (⟨S16384x8, .f32⟩ : BufTy).Contents (Elt F)),
   StableHlo.binary main_arg7 main_arg7 main_call1_v0 (mulf : (⟨S8192x8, .f32⟩ : BufTy).Contents (Elt F) → (⟨S8192x8, .f32⟩ : BufTy).Contents (Elt F) → (⟨S8192x8, .f32⟩ : BufTy).Contents (Elt F)),
   StableHlo.nullary main_call1_cst (constant S_ .f32 0x00000000#32),
   StableHlo.binary main_call1_v0 main_call1_cst main_call1_v1 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
   StableHlo.unary main_call1_v1 main_call1_v2 ((broadcastInDim S8192x1 ![0] bcast_S8192_S8192x1_0) : (⟨S8192, .f32⟩ : BufTy).Contents (Elt F) → (⟨S8192x1, .f32⟩ : BufTy).Contents (Elt F)),
   StableHlo.unary main_call1_v2 main_v21 (Host.sqrt : (⟨S8192x1, .f32⟩ : BufTy).Contents (Elt F) → (⟨S8192x1, .f32⟩ : BufTy).Contents (Elt F)),
   StableHlo.nullary main_cst_1 (constant S_ .f32 0x2B8CBCCC#32),
   StableHlo.unary main_cst_1 main_v22 (broadcastInDim S8192x1 ![] bcast_S_S8192x1 : (⟨S_, .f32⟩ : BufTy).Contents (Elt F) → (⟨S8192x1, .f32⟩ : BufTy).Contents (Elt F)),
   StableHlo.binary main_v21 main_v22 main_v23 (maximumf : (⟨S8192x1, .f32⟩ : BufTy).Contents (Elt F) → (⟨S8192x1, .f32⟩ : BufTy).Contents (Elt F) → (⟨S8192x1, .f32⟩ : BufTy).Contents (Elt F)),
   StableHlo.unary main_v23 main_v24 (broadcastInDim S8192x8 ![0, 1] bcast_S8192x1_S8192x8_0_1 : (⟨S8192x1, .f32⟩ : BufTy).Contents (Elt F) → (⟨S8192x8, .f32⟩ : BufTy).Contents (Elt F)),
   StableHlo.binary main_arg7 main_v24 main_v25 (Host.divf : (⟨S8192x8, .f32⟩ : BufTy).Contents (Elt F) → (⟨S8192x8, .f32⟩ : BufTy).Contents (Elt F) → (⟨S8192x8, .f32⟩ : BufTy).Contents (Elt F)),
   StableHlo.binary main_v20 main_v20 main_v26 (mulf : (⟨S16384x8, .f32⟩ : BufTy).Contents (Elt F) → (⟨S16384x8, .f32⟩ : BufTy).Contents (Elt F) → (⟨S16384x8, .f32⟩ : BufTy).Contents (Elt F)),
   StableHlo.nullary main_cst_2 (constant S_ .f32 0x00000000#32),
   StableHlo.binary main_v26 main_cst_2 main_v27 ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F)),
   StableHlo.unary main_v27 main_v28 (broadcastInDim S16384x1 ![0] bcast_S16384_S16384x1_0 : (⟨S16384, .f32⟩ : BufTy).Contents (Elt F) → (⟨S16384x1, .f32⟩ : BufTy).Contents (Elt F)),
   StableHlo.nullary main_cst_3 (constant S_ .f32 0x40000000#32),
   StableHlo.unary main_cst_3 main_v29 (broadcastInDim S16384x8 ![] bcast_S_S16384x8 : (⟨S_, .f32⟩ : BufTy).Contents (Elt F) → (⟨S16384x8, .f32⟩ : BufTy).Contents (Elt F)),
   StableHlo.binary main_v29 main_v20 main_v30 (mulf : (⟨S16384x8, .f32⟩ : BufTy).Contents (Elt F) → (⟨S16384x8, .f32⟩ : BufTy).Contents (Elt F) → (⟨S16384x8, .f32⟩ : BufTy).Contents (Elt F)),
   StableHlo.unary main_v25 main_v31 ((transpose S8x8192 [1, 0] · transposes_S8192x8_S8x8192_1_0) : (⟨S8192x8, .f32⟩ : BufTy).Contents (Elt F) → (⟨S8x8192, .f32⟩ : BufTy).Contents (Elt F)),
   StableHlo.binary main_v30 main_v31 main_v32 ((fun l r => Host.dotGeneral dot_S16384x8_S8x8192_S16384x8192_1_0_0_1_n_n none l r) : (⟨S16384x8, .f32⟩ : BufTy).Contents (Elt F) → (⟨S8x8192, .f32⟩ : BufTy).Contents (Elt F) → (⟨S16384x8192, .f32⟩ : BufTy).Contents (Elt F)),
   StableHlo.unary main_v28 main_v33 (broadcastInDim S16384x8192 ![0, 1] bcast_S16384x1_S16384x8192_0_1 : (⟨S16384x1, .f32⟩ : BufTy).Contents (Elt F) → (⟨S16384x8192, .f32⟩ : BufTy).Contents (Elt F)),
   StableHlo.binary main_v33 main_v32 main_v34 (subf : (⟨S16384x8192, .f32⟩ : BufTy).Contents (Elt F) → (⟨S16384x8192, .f32⟩ : BufTy).Contents (Elt F) → (⟨S16384x8192, .f32⟩ : BufTy).Contents (Elt F)),
   StableHlo.binary main_v25 main_v25 main_v35 (mulf : (⟨S8192x8, .f32⟩ : BufTy).Contents (Elt F) → (⟨S8192x8, .f32⟩ : BufTy).Contents (Elt F) → (⟨S8192x8, .f32⟩ : BufTy).Contents (Elt F)),
   StableHlo.nullary main_cst_4 (constant S_ .f32 0x00000000#32),
   StableHlo.binary main_v35 main_cst_4 main_v36 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
   StableHlo.unary main_v36 main_v37 (broadcastInDim S1x8192 ![1] bcast_S8192_S1x8192_1 : (⟨S8192, .f32⟩ : BufTy).Contents (Elt F) → (⟨S1x8192, .f32⟩ : BufTy).Contents (Elt F)),
   StableHlo.unary main_v37 main_v38 (broadcastInDim S16384x8192 ![0, 1] bcast_S1x8192_S16384x8192_0_1 : (⟨S1x8192, .f32⟩ : BufTy).Contents (Elt F) → (⟨S16384x8192, .f32⟩ : BufTy).Contents (Elt F)),
   StableHlo.binary main_v34 main_v38 main_v39 (addf : (⟨S16384x8192, .f32⟩ : BufTy).Contents (Elt F) → (⟨S16384x8192, .f32⟩ : BufTy).Contents (Elt F) → (⟨S16384x8192, .f32⟩ : BufTy).Contents (Elt F)),
   StableHlo.unary main_v39 main_v40 (Host.negf : (⟨S16384x8192, .f32⟩ : BufTy).Contents (Elt F) → (⟨S16384x8192, .f32⟩ : BufTy).Contents (Elt F))]

/-- The indices. -/
def rC : List (HloOp τ sig (Elt F)) :=
  [StableHlo.nullary main_call2_v0 (iotaInDim S16384x8192 32 1),
   StableHlo.nullary main_call2_cst (constant S_ .f32 0xFF800000#32),
   StableHlo.nullary main_call2_c (constantI S_ 32 0#32),
   StableHlo.quaternary main_v40 main_call2_v0 main_call2_cst main_call2_c main_call2_v1_0 ((fun x y u v j => (Host.argReduce reducer_argmax_f32_i32 x y u v reducesTo_S16384x8192_S16384_d1 h_S_ j).1) : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .f32⟩ : BufTy).Contents (Elt F)),
   StableHlo.quaternary main_v40 main_call2_v0 main_call2_cst main_call2_c main_v41 ((fun x y u v j => (Host.argReduce reducer_argmax_f32_i32 x y u v reducesTo_S16384x8192_S16384_d1 h_S_ j).2) : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .i32⟩ : BufTy).Contents (Elt F)),
   StableHlo.reshape main_v41 main_v42 (rfl : (.i32 : EltTy) = .i32) shapeCasts_S16384_S4x4096]

/-- The codebook entries taken. -/
def rD : List (HloOp τ sig (Elt F)) :=
  [StableHlo.nullary main_call3_c (constantI S_ 32 0#32),
   StableHlo.unary main_call3_c main_call3_v0 ((broadcastInDim S4x4096 ![] bcast_S_S4x4096) : (⟨S_, .i32⟩ : BufTy).Contents (Elt F) → (⟨S4x4096, .i32⟩ : BufTy).Contents (Elt F)),
   StableHlo.binary main_v42 main_call3_v0 main_call3_v1 ((cmpi .slt) : (⟨S4x4096, .i32⟩ : BufTy).Contents (Elt F) → (⟨S4x4096, .i32⟩ : BufTy).Contents (Elt F) → (⟨S4x4096, .i1⟩ : BufTy).Contents (Elt F)),
   StableHlo.nullary main_call3_c_0 (constantI S_ 32 8192#32),
   StableHlo.unary main_call3_c_0 main_call3_v2 ((broadcastInDim S4x4096 ![] bcast_S_S4x4096) : (⟨S_, .i32⟩ : BufTy).Contents (Elt F) → (⟨S4x4096, .i32⟩ : BufTy).Contents (Elt F)),
   StableHlo.binary main_v42 main_call3_v2 main_call3_v3 (addi : (⟨S4x4096, .i32⟩ : BufTy).Contents (Elt F) → (⟨S4x4096, .i32⟩ : BufTy).Contents (Elt F) → (⟨S4x4096, .i32⟩ : BufTy).Contents (Elt F)),
   StableHlo.ternary main_call3_v1 main_call3_v3 main_v42 main_call3_v4 (select : (⟨S4x4096, .i1⟩ : BufTy).Contents (Elt F) → (⟨S4x4096, .i32⟩ : BufTy).Contents (Elt F) → (⟨S4x4096, .i32⟩ : BufTy).Contents (Elt F) → (⟨S4x4096, .i32⟩ : BufTy).Contents (Elt F)),
   StableHlo.unary main_call3_v4 main_call3_v5 ((broadcastInDim S4x4096x1 ![0, 1] bcast_S4x4096_S4x4096x1_0_1) : (⟨S4x4096, .i32⟩ : BufTy).Contents (Elt F) → (⟨S4x4096x1, .i32⟩ : BufTy).Contents (Elt F)),
   StableHlo.nullary main_call3_c_1 (constantI S1 32 8191#32),
   StableHlo.nullary main_call3_c_2 (constantI S_ 32 0#32),
   StableHlo.unary main_call3_c_2 main_call3_v6 ((broadcastInDim S4x4096x1 ![] bcast_S_S4x4096x1) : (⟨S_, .i32⟩ : BufTy).Contents (Elt F) → (⟨S4x4096x1, .i32⟩ : BufTy).Contents (Elt F)),
   StableHlo.binary main_call3_v5 main_call3_v6 main_call3_v7 ((cmpi .sge) : (⟨S4x4096x1, .i32⟩ : BufTy).Contents (Elt F) → (⟨S4x4096x1, .i32⟩ : BufTy).Contents (Elt F) → (⟨S4x4096x1, .i1⟩ : BufTy).Contents (Elt F)),
   StableHlo.unary main_call3_c_1 main_call3_v8 ((broadcastInDim S1x1x1 ![2] bcast_S1_S1x1x1_2) : (⟨S1, .i32⟩ : BufTy).Contents (Elt F) → (⟨S1x1x1, .i32⟩ : BufTy).Contents (Elt F)),
   StableHlo.unary main_call3_v8 main_call3_v9 ((broadcastInDim S4x4096x1 ![0, 1, 2] bcast_S1x1x1_S4x4096x1_0_1_2) : (⟨S1x1x1, .i32⟩ : BufTy).Contents (Elt F) → (⟨S4x4096x1, .i32⟩ : BufTy).Contents (Elt F)),
   StableHlo.binary main_call3_v5 main_call3_v9 main_call3_v10 ((cmpi .sle) : (⟨S4x4096x1, .i32⟩ : BufTy).Contents (Elt F) → (⟨S4x4096x1, .i32⟩ : BufTy).Contents (Elt F) → (⟨S4x4096x1, .i1⟩ : BufTy).Contents (Elt F)),
   StableHlo.binary main_call3_v7 main_call3_v10 main_call3_v11 (andi : (⟨S4x4096x1, .i1⟩ : BufTy).Contents (Elt F) → (⟨S4x4096x1, .i1⟩ : BufTy).Contents (Elt F) → (⟨S4x4096x1, .i1⟩ : BufTy).Contents (Elt F)),
   StableHlo.nullary main_call3_c_3 (constantI S_ 1 1#1),
   StableHlo.binary main_call3_v11 main_call3_c_3 main_call3_v12 ((fun x v => Host.reduce IntOp.andi x v reducesTo_S4x4096x1_S4x4096_d2 h_S_) : (⟨S4x4096x1, .i1⟩ : BufTy).Contents (Elt F) → (⟨S_, .i1⟩ : BufTy).Contents (Elt F) → (⟨S4x4096, .i1⟩ : BufTy).Contents (Elt F)),
   StableHlo.binary main_arg7 main_call3_v5 main_call3_v13 ((fun x i => Host.gather gather_S8192x8_S4x4096x1_S4x4096x8_2_0_n_n_0_2_18 x i) : (⟨S8192x8, .f32⟩ : BufTy).Contents (Elt F) → (⟨S4x4096x1, .i32⟩ : BufTy).Contents (Elt F) → (⟨S4x4096x8, .f32⟩ : BufTy).Contents (Elt F)),
   StableHlo.unary main_call3_v12 main_call3_v14 ((broadcastInDim S4x4096x8 ![0, 1] bcast_S4x4096_S4x4096x8_0_1) : (⟨S4x4096, .i1⟩ : BufTy).Contents (Elt F) → (⟨S4x4096x8, .i1⟩ : BufTy).Contents (Elt F)),
   StableHlo.nullary main_call3_cst (constant S_ .f32 0x7FC00000#32),
   StableHlo.unary main_call3_cst main_call3_v15 ((broadcastInDim S4x4096x8 ![] bcast_S_S4x4096x8) : (⟨S_, .f32⟩ : BufTy).Contents (Elt F) → (⟨S4x4096x8, .f32⟩ : BufTy).Contents (Elt F)),
   StableHlo.ternary main_call3_v14 main_call3_v13 main_call3_v15 main_v43 (select : (⟨S4x4096x8, .i1⟩ : BufTy).Contents (Elt F) → (⟨S4x4096x8, .f32⟩ : BufTy).Contents (Elt F) → (⟨S4x4096x8, .f32⟩ : BufTy).Contents (Elt F) → (⟨S4x4096x8, .f32⟩ : BufTy).Contents (Elt F)),
   StableHlo.unary main_v43 main_v44 ((transpose S4x8x4096 [0, 2, 1] · transposes_S4x4096x8_S4x8x4096_0_2_1) : (⟨S4x4096x8, .f32⟩ : BufTy).Contents (Elt F) → (⟨S4x8x4096, .f32⟩ : BufTy).Contents (Elt F))]

/-- The losses and the projection back. -/
def rE : List (HloOp τ sig (Elt F)) :=
  [StableHlo.nullary main_cst_5 (constant S_ .f32 0x00000000#32),
   StableHlo.unary main_cst_5 main_v45 (broadcastInDim S4 ![] bcast_S_S4 : (⟨S_, .f32⟩ : BufTy).Contents (Elt F) → (⟨S4, .f32⟩ : BufTy).Contents (Elt F)),
   StableHlo.nullary main_cst_6 (constant S_ .f32 0x00000000#32),
   StableHlo.unary main_cst_6 main_v46 (broadcastInDim S4 ![] bcast_S_S4 : (⟨S_, .f32⟩ : BufTy).Contents (Elt F) → (⟨S4, .f32⟩ : BufTy).Contents (Elt F)),
   StableHlo.binary main_v44 main_v13 main_v47 (subf : (⟨S4x8x4096, .f32⟩ : BufTy).Contents (Elt F) → (⟨S4x8x4096, .f32⟩ : BufTy).Contents (Elt F) → (⟨S4x8x4096, .f32⟩ : BufTy).Contents (Elt F)),
   StableHlo.binary main_v13 main_v47 main_v48 (addf : (⟨S4x8x4096, .f32⟩ : BufTy).Contents (Elt F) → (⟨S4x8x4096, .f32⟩ : BufTy).Contents (Elt F) → (⟨S4x8x4096, .f32⟩ : BufTy).Contents (Elt F)),
   StableHlo.binary main_arg4 main_arg4 main_v49 (mulf : (⟨S1024x8, .f32⟩ : BufTy).Contents (Elt F) → (⟨S1024x8, .f32⟩ : BufTy).Contents (Elt F) → (⟨S1024x8, .f32⟩ : BufTy).Contents (Elt F)),
   StableHlo.nullary main_cst_7 (constant S_ .f32 0x00000000#32),
   StableHlo.binary main_v49 main_cst_7 main_v50 ((fun x v => Host.reduceAdd x v reducesTo_S1024x8_S1024_d1 h_S_) : (⟨S1024x8, .f32⟩ : BufTy).Contents (Elt F) → (⟨S_, .f32⟩ : BufTy).Contents (Elt F) → (⟨S1024, .f32⟩ : BufTy).Contents (Elt F)),
   StableHlo.unary main_v50 main_v51 (broadcastInDim S1024x1 ![0] bcast_S1024_S1024x1_0 : (⟨S1024, .f32⟩ : BufTy).Contents (Elt F) → (⟨S1024x1, .f32⟩ : BufTy).Contents (Elt F)),
   StableHlo.unary main_v51 main_v52 (Host.sqrt : (⟨S1024x1, .f32⟩ : BufTy).Contents (Elt F) → (⟨S1024x1, .f32⟩ : BufTy).Contents (Elt F)),
   StableHlo.unary main_arg5 main_v53 (broadcastInDim S1024x1 ![0] bcast_S1024_S1024x1_0 : (⟨S1024, .f32⟩ : BufTy).Contents (Elt F) → (⟨S1024x1, .f32⟩ : BufTy).Contents (Elt F)),
   StableHlo.unary main_v53 main_v54 (broadcastInDim S1024x8 ![0, 1] bcast_S1024x1_S1024x8_0_1 : (⟨S1024x1, .f32⟩ : BufTy).Contents (Elt F) → (⟨S1024x8, .f32⟩ : BufTy).Contents (Elt F)),
   StableHlo.binary main_v54 main_arg4 main_v55 (mulf : (⟨S1024x8, .f32⟩ : BufTy).Contents (Elt F) → (⟨S1024x8, .f32⟩ : BufTy).Contents (Elt F) → (⟨S1024x8, .f32⟩ : BufTy).Contents (Elt F)),
   StableHlo.unary main_v52 main_v56 (broadcastInDim S1024x8 ![0, 1] bcast_S1024x1_S1024x8_0_1 : (⟨S1024x1, .f32⟩ : BufTy).Contents (Elt F) → (⟨S1024x8, .f32⟩ : BufTy).Contents (Elt F)),
   StableHlo.binary main_v55 main_v56 main_v57 (Host.divf : (⟨S1024x8, .f32⟩ : BufTy).Contents (Elt F) → (⟨S1024x8, .f32⟩ : BufTy).Contents (Elt F) → (⟨S1024x8, .f32⟩ : BufTy).Contents (Elt F)),
   StableHlo.binary main_v48 main_v57 main_v58 ((fun l r => Host.dotGeneral dot_S4x8x4096_S1024x8_S4x4096x1024_1_1_02_0_n_n none l r) : (⟨S4x8x4096, .f32⟩ : BufTy).Contents (Elt F) → (⟨S1024x8, .f32⟩ : BufTy).Contents (Elt F) → (⟨S4x4096x1024, .f32⟩ : BufTy).Contents (Elt F)),
   StableHlo.unary main_v58 main_v59 ((transpose S4x1024x4096 [0, 2, 1] · transposes_S4x4096x1024_S4x1024x4096_0_2_1) : (⟨S4x4096x1024, .f32⟩ : BufTy).Contents (Elt F) → (⟨S4x1024x4096, .f32⟩ : BufTy).Contents (Elt F)),
   StableHlo.unary main_arg6 main_v60 (broadcastInDim S1x1024x1 ![1] bcast_S1024_S1x1024x1_1 : (⟨S1024, .f32⟩ : BufTy).Contents (Elt F) → (⟨S1x1024x1, .f32⟩ : BufTy).Contents (Elt F)),
   StableHlo.unary main_v60 main_v61 (broadcastInDim S4x1024x4096 ![0, 1, 2] bcast_S1x1024x1_S4x1024x4096_0_1_2 : (⟨S1x1024x1, .f32⟩ : BufTy).Contents (Elt F) → (⟨S4x1024x4096, .f32⟩ : BufTy).Contents (Elt F)),
   StableHlo.binary main_v59 main_v61 main_v62 (addf : (⟨S4x1024x4096, .f32⟩ : BufTy).Contents (Elt F) → (⟨S4x1024x4096, .f32⟩ : BufTy).Contents (Elt F) → (⟨S4x1024x4096, .f32⟩ : BufTy).Contents (Elt F))]

/-- The whole line. -/
def rAll : List (HloOp τ sig (Elt F)) := rA ++ (rB ++ (rC ++ (rD ++ rE)))

set_option maxRecDepth 131072 in
set_option maxHeartbeats 4000000 in
theorem main_eq (c : Dev nD) : main (F := F) c = seq rAll := by
  simp only [rAll, rA, rB, rC, rD, rE, List.cons_append, List.nil_append, seq]
  rfl

theorem scopedRefs_eq : (Finset.univ.filter fun b : Ref sig .tc => b.isScoped) = ∅ := by decide
theorem scopedSems_eq : (Finset.univ.filter fun sm : SemLoc sig => sm.isScoped .tc) = ∅ := by decide

theorem rA_sub : (rA : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub ..⟩

theorem rA_fresh : ∀ op ∈ (rA : List (HloOp τ sig (Elt F))), op.fresh = ∅ := by
  unfold rA
  simp only [List.forall_mem_cons, List.not_mem_nil, false_imp_iff, implies_true, and_true]
  refine ⟨rfl, rfl, rfl, rfl, rfl, rfl, rfl, rfl, rfl, rfl, rfl, rfl, rfl, rfl, rfl⟩

theorem rB_sub : (rB : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub ..⟩

theorem rB_fresh : ∀ op ∈ (rB : List (HloOp τ sig (Elt F))), op.fresh = ∅ := by
  unfold rB
  simp only [List.forall_mem_cons, List.not_mem_nil, false_imp_iff, implies_true, and_true]
  refine ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem rC_sub : (rC : List (HloOp τ sig (Elt F))).Forall fun op => op.bufs ⊆ tcRefs τ sig :=
  ⟨nullary_bufs_sub .., nullary_bufs_sub .., nullary_bufs_sub .., quaternary_bufs_sub .., quaternary_bufs_sub .., reshape_bufs_sub ..⟩

theorem rC_fresh : ∀ op ∈ (rC : List (HloOp τ sig (Elt F))), op.fresh = ∅ := by
  unfold rC
  simp only [List.forall_mem_cons, List.not_mem_nil, false_imp_iff, implies_true, and_true]
  refine ⟨rfl, rfl, rfl, rfl, rfl, rfl⟩

theorem rD_sub : (rD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub ..⟩

theorem rD_fresh : ∀ op ∈ (rD : List (HloOp τ sig (Elt F))), op.fresh = ∅ := by
  unfold rD
  simp only [List.forall_mem_cons, List.not_mem_nil, false_imp_iff, implies_true, and_true]
  refine ⟨rfl, rfl, rfl, rfl, rfl, rfl, rfl, rfl, rfl, rfl, rfl, rfl, rfl, rfl, rfl, rfl, rfl, rfl, rfl, rfl, rfl, rfl, rfl, rfl⟩

theorem rE_sub : (rE : List (HloOp τ sig (Elt F))).Forall fun op => op.bufs ⊆ tcRefs τ sig :=
  ⟨nullary_bufs_sub .., unary_bufs_sub .., nullary_bufs_sub .., unary_bufs_sub .., binary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub ..⟩

theorem rE_fresh : ∀ op ∈ (rE : List (HloOp τ sig (Elt F))), op.fresh = ∅ := by
  unfold rE
  simp only [List.forall_mem_cons, List.not_mem_nil, false_imp_iff, implies_true, and_true]
  refine ⟨rfl, rfl, rfl, rfl, rfl, rfl, rfl, rfl, rfl, rfl, rfl, rfl, rfl, rfl, rfl, rfl, rfl, rfl, rfl, rfl, rfl⟩

theorem rAll_sub : (rAll : List (HloOp τ sig (Elt F))).Forall fun op => op.bufs ⊆ tcRefs τ sig := by
  unfold rAll
  simp only [List.forall_append]
  exact ⟨rA_sub, rB_sub, rC_sub, rD_sub, rE_sub⟩

theorem rAll_fresh : ∀ op ∈ (rAll : List (HloOp τ sig (Elt F))), op.fresh = ∅ := by
  unfold rAll
  intro op h
  simp only [List.mem_append] at h
  rcases h with h | h | h | h | h
  · exact rA_fresh op h
  · exact rB_fresh op h
  · exact rC_fresh op h
  · exact rD_fresh op h
  · exact rE_fresh op h

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after rAll (launchContents m c) (b : DevRef τ sig) :=
  run_seq scopedRefs_eq scopedSems_eq defs main (fun _ => rAll) main_eq (fun _ => rAll_sub) m ρ (fun _ => rAll_fresh)

end Cert.Proof.Rf

end
-- ==== Proof.Arg.lean ====
/-
  The reference's index of the greatest: the first column at which a row is greatest.
-/
module

public import proofs.«01_k».proof.Proof.Ref
public import proofs.«01_k».proof.Proof.Pay

@[expose] public section

set_option maxRecDepth 16384

noncomputable section

namespace Cert.Proof.Rf

open Cert.ReferenceIdeal Cert.ReferenceIdeal.Gen
open Idealize.ShloMosaic
open Cert.Proof.Vq (IsNear)

/-- The pair kept of two: the greater value, and of equal ones the smaller index. -/
theorem red_eq (a b : EReal × BitVec 32) : (reducer_argmax_f32_i32 (F := Ideal) a b : EReal × BitVec 32)
    = if b.1 < a.1 ∨ (a.1 = b.1 ∧ a.2.toInt < b.2.toInt) then a else b := by
  obtain ⟨a1, a2⟩ := a
  obtain ⟨b1, b2⟩ := b
  have hgt : FloatOps.cmpf (F := Ideal) (φ := .f32) .ogt a1 b1 = BitVec.ofBool (decide (b1 < a1)) := by
    show Ideal.cmp _ _ _ = _
    simp [Ideal.cmp]
  have hne : FloatOps.cmpf (F := Ideal) (φ := .f32) .une a1 a1 = 0#1 := by
    show Ideal.cmp _ _ _ = _
    simp [Ideal.cmp]
  have heq : FloatOps.cmpf (F := Ideal) (φ := .f32) .oeq a1 b1 = BitVec.ofBool (decide (a1 = b1)) := by
    show Ideal.cmp _ _ _ = _
    simp [Ideal.cmp]
  have hlt : IntOp.cmpi .slt a2 b2 = BitVec.ofBool (decide (a2.toInt < b2.toInt)) := by simp [IntOp.cmpi, BitVec.slt]
  unfold reducer_argmax_f32_i32
  simp only [hgt, hne, heq, hlt]
  by_cases h1 : b1 < a1
  · simp [h1, h1.ne', IntOp.ori, IntOp.andi, Scalar.select]
  · by_cases h2 : a1 = b1
    · subst h2
      by_cases h3 : a2.toInt < b2.toInt
      · simp [h3, IntOp.ori, IntOp.andi, Scalar.select]
      · simp [h3, IntOp.ori, IntOp.andi, Scalar.select]
    · simp [h1, h2, IntOp.ori, IntOp.andi, Scalar.select]

/-- `q` is no better than `p`. -/
def Le (q p : EReal × BitVec 32) : Prop := q.1 < p.1 ∨ (q.1 = p.1 ∧ p.2.toInt ≤ q.2.toInt)

theorem Le.refl (p : EReal × BitVec 32) : Le p p := .inr ⟨rfl, le_refl _⟩

theorem Le.trans {a b c : EReal × BitVec 32} (h : Le a b) (h' : Le b c) : Le a c := by
  rcases h with h | ⟨h, i⟩ <;> rcases h' with h' | ⟨h', i'⟩
  · exact .inl (h.trans h')
  · exact .inl (h' ▸ h)
  · exact .inl (h ▸ h')
  · exact .inr ⟨h.trans h', i'.trans i⟩

theorem red_le (a b : EReal × BitVec 32) : Le a (reducer_argmax_f32_i32 (F := Ideal) a b) ∧ Le b (reducer_argmax_f32_i32 (F := Ideal) a b)
    ∧ ((reducer_argmax_f32_i32 (F := Ideal) a b : EReal × BitVec 32) = a ∨ (reducer_argmax_f32_i32 (F := Ideal) a b : EReal × BitVec 32) = b) := by
  rw [red_eq]
  split
  · rename_i h
    refine ⟨Le.refl a, ?_, .inl rfl⟩
    rcases h with h | ⟨h, i⟩
    · exact .inl h
    · exact .inr ⟨h.symm, i.le⟩
  · rename_i h
    rw [not_or, not_and] at h
    refine ⟨?_, Le.refl b, .inr rfl⟩
    rcases lt_or_eq_of_le (not_lt.mp h.1) with h1 | h1
    · exact .inl h1
    · exact .inr ⟨h1, not_lt.mp (h.2 h1)⟩

theorem fold_le (L : List (EReal × BitVec 32)) (p : EReal × BitVec 32) :
    Le p (L.foldl (reducer_argmax_f32_i32 (F := Ideal)) p) ∧ (∀ q ∈ L, Le q (L.foldl (reducer_argmax_f32_i32 (F := Ideal)) p))
    ∧ ((L.foldl (reducer_argmax_f32_i32 (F := Ideal)) p : EReal × BitVec 32) = p ∨ (L.foldl (reducer_argmax_f32_i32 (F := Ideal)) p : EReal × BitVec 32) ∈ L) := by
  induction L generalizing p with
  | nil => exact ⟨Le.refl p, by simp, .inl rfl⟩
  | cons b L ih =>
    obtain ⟨h1, h2, h3⟩ := ih (reducer_argmax_f32_i32 (F := Ideal) p b)
    obtain ⟨r1, r2, r3⟩ := red_le p b
    refine ⟨r1.trans h1, ?_, ?_⟩
    · intro q hq
      rcases List.mem_cons.mp hq with rfl | hq
      · exact r2.trans h1
      · exact h2 q hq
    · rcases h3 with h3 | h3
      · rcases r3 with r3 | r3
        · exact .inl (h3.trans r3)
        · exact .inr (List.mem_cons.mpr (.inl (h3.trans r3)))
      · exact .inr (List.mem_cons_of_mem _ h3)

theorem mem_fiber (x : FVec Ideal S16384x8192 .f32) (y : S16384x8192.Idx → BitVec 32) (r : Fin 16384) (q : EReal × BitVec 32) :
    q ∈ (Host.argReduceFiber (α := EReal) x y reducesTo_S16384x8192_S16384_d1 (ix1 r) : List (EReal × BitVec 32)) ↔ ∃ j : Fin 8192, q = (x (ix2 r j), y (ix2 r j)) := by
  have hdrop : ∀ i : S16384x8192.Idx, reducesTo_S16384x8192_S16384_d1.drop i = ix1 r ↔ i 0 = r := by
    intro i
    have h0 : ((reducesTo_S16384x8192_S16384_d1.drop i) 0 : Nat) = i 0 :=
      Shape.ReducesTo.drop_apply_val_of_eq (s := S16384x8192) (t := S16384) reducesTo_S16384x8192_S16384_d1 i 0 0
    constructor
    · intro h
      rw [h] at h0
      exact Fin.ext h0.symm
    · intro h
      funext b
      have hb : b = 0 := Subsingleton.elim (α := Fin 1) b 0
      subst hb
      exact Fin.ext (by rw [h0, h]; rfl)
  have hix : ∀ i : S16384x8192.Idx, i 0 = r → i = ix2 r (i 1) := by
    intro i h
    funext b
    fin_cases b
    · exact h
    · rfl
  unfold Host.argReduceFiber
  rw [List.mem_map]
  constructor
  · rintro ⟨n, hn, rfl⟩
    rw [List.mem_filter] at hn
    have h0 := (hdrop _).mp (of_decide_eq_true hn.2)
    exact ⟨(S16384x8192.rowMajor.symm n) 1, Prod.ext (congrArg x (hix _ h0)) (congrArg y (hix _ h0))⟩
  · rintro ⟨j, rfl⟩
    refine ⟨S16384x8192.rowMajor (ix2 r j), ?_, ?_⟩
    · rw [List.mem_filter]
      refine ⟨List.mem_finRange _, ?_⟩
      rw [Equiv.symm_apply_apply]
      exact decide_eq_true ((hdrop _).mpr rfl)
    · rw [Equiv.symm_apply_apply]

theorem arg_near (x : FVec Ideal S16384x8192 .f32) (y : S16384x8192.Idx → BitVec 32) (u : S_.Idx → EReal) (v : S_.Idx → BitVec 32)
    (hy : ∀ (r : Fin 16384) (j : Fin 8192), y (ix2 r j) = BitVec.ofNat 32 j.val) (hu : ∀ i, u i = ⊥) (hv : ∀ i, v i = 0#32) (r : Fin 16384) :
    ∃ k : Fin 8192, (Host.argReduce (φ := .f32) (reducer_argmax_f32_i32 (F := Ideal)) x y u v reducesTo_S16384x8192_S16384_d1 h_S_ (ix1 r)).2 = BitVec.ofNat 32 k.val
      ∧ IsNear (fun j => -(x (ix2 r j) : EReal)) k := by
  have hint : ∀ j : Fin 8192, (BitVec.ofNat 32 j.val).toInt = j.val := by
    intro j
    rw [BitVec.toInt_eq_toNat_of_lt] <;> rw [BitVec.toNat_ofNat] <;> omega
  rw [Ideal.argReduce_eq_reduce2, Host.reduce2_eq_foldl_fiber, hu, hv]
  have H := fold_le (Host.argReduceFiber (α := EReal) x y reducesTo_S16384x8192_S16384_d1 (ix1 r)) (⊥, 0#32)
  generalize List.foldl (reducer_argmax_f32_i32 (F := Ideal)) _ _ = p at H ⊢
  obtain ⟨-, h2, h3⟩ := H
  have hl : ∀ j : Fin 8192, Le (x (ix2 r j), BitVec.ofNat 32 j.val) p := fun j => h2 _ ((mem_fiber x y r _).mpr ⟨j, by rw [hy]⟩)
  have hk : ∃ k : Fin 8192, p = (x (ix2 r k), BitVec.ofNat 32 k.val) := by
    rcases h3 with h3 | h3
    · refine ⟨0, ?_⟩
      have := hl 0
      rw [h3] at this ⊢
      rcases this with h | ⟨h, -⟩
      · exact absurd h not_lt_bot
      · exact Prod.ext h.symm rfl
    · obtain ⟨k, hk⟩ := (mem_fiber x y r _).mp h3
      exact ⟨k, by rw [hk, hy]⟩
  obtain ⟨k, rfl⟩ := hk
  refine ⟨k, rfl, fun j => ?_⟩
  rcases hl j with h | ⟨h, i⟩
  · exact ⟨EReal.neg_le_neg_iff.mpr (le_of_lt h), fun _ => EReal.neg_lt_neg_iff.mpr h⟩
  · refine ⟨EReal.neg_le_neg_iff.mpr (le_of_eq h), fun hj => ?_⟩
    simp only [hint] at i
    exact absurd (Fin.lt_def.mp hj) (by omega)

end Cert.Proof.Rf

end
-- ==== Proof.Rv.lean ====
/-
  The reference's buffers, named at their element types.
-/
module

public import proofs.«01_k».proof.Proof.Arg
public import proofs.«01_k».proof.Proof.Kern
public import Idealize.ShloMosaic.Lib.Pipeline.Frame

@[expose] public section

set_option maxRecDepth 16384

noncomputable section

namespace Cert.Proof.Rf

open Cert.ReferenceIdeal Cert.ReferenceIdeal.Gen
open Idealize.ShloMosaic Idealize.ShloMosaic.TcCoe Idealize.ShloMosaic.StableHlo Idealize.ShloMosaic.ValueIdx
open Cert.Proof.Vq (IsNear wn cbn cbs lat dst nrm eps)

abbrev rr (b : Ref sig .tc) : DevRef τ sig := Proc.devRef .tc b

variable (V : Valuation τ sig (Elt Ideal))

abbrev g0 : FVec Ideal S4x1024x4096 .f32 := V (rr main_arg0)
abbrev g1 : FVec Ideal S8x1024 .f32 := V (rr main_arg1)
abbrev g2 : FVec Ideal S8 .f32 := V (rr main_arg2)
abbrev g3 : FVec Ideal S8 .f32 := V (rr main_arg3)
abbrev g4 : FVec Ideal S1024x8 .f32 := V (rr main_arg4)
abbrev g5 : FVec Ideal S1024 .f32 := V (rr main_arg5)
abbrev g6 : FVec Ideal S1024 .f32 := V (rr main_arg6)
abbrev g7 : FVec Ideal S8192x8 .f32 := V (rr main_arg7)
abbrev h13 : FVec Ideal S4x8x4096 .f32 := V (rr main_v13)
abbrev h40 : FVec Ideal S16384x8192 .f32 := V (rr main_v40)
abbrev h42 : IVec S4x4096 32 := V (rr main_v42)
abbrev h44 : FVec Ideal S4x8x4096 .f32 := V (rr main_v44)
abbrev h62 : FVec Ideal S4x1024x4096 .f32 := V (rr main_v62)

end Cert.Proof.Rf

end
-- ==== Proof.RvA.lean ====
/-
  The reference's latents at an index.
-/
module

public import proofs.«01_k».proof.Proof.Rv
public import Idealize.ShloMosaic.Lib.Pipeline.Frame

@[expose] public section

set_option maxRecDepth 16384

noncomputable section

namespace Cert.Proof.Rf

open Cert.ReferenceIdeal Cert.ReferenceIdeal.Gen
open Idealize.ShloMosaic Idealize.ShloMosaic.TcCoe Idealize.ShloMosaic.StableHlo
open Cert.Proof.Vq (IsNear wn cbn cbs lat dst nrm eps)

variable (V : Valuation τ sig (Elt Ideal))

/-- The latents at an index. -/
theorem z_at (n : Fin 4) (e : Fin 8) (t : Fin 4096) : h13 (after rA V) (ix3 n e t)
    = lat (fun n i t => g0 V (ix3 n i t)) (wn (fun i j => g1 V (ix2 i j)) (fun i => g2 V (ix1 i))) (fun i => g3 V (ix1 i)) n e t := by
  simp only [h13, rA, rr]
  after_reads_at
  unfold lat wn
  refine congrArg (· + _) (Finset.sum_congr rfl fun x _ => ?_)
  exact mul_comm _ _

end Cert.Proof.Rf

end
-- ==== Proof.RvB.lean ====
/-
  The reference's negated distances at an index.
-/
module

public import proofs.«01_k».proof.Proof.Rv
public import Idealize.ShloMosaic.Lib.Pipeline.Frame

@[expose] public section

set_option maxRecDepth 16384

noncomputable section

namespace Cert.Proof.Rf

open Cert.ReferenceIdeal Cert.ReferenceIdeal.Gen
open Idealize.ShloMosaic Idealize.ShloMosaic.TcCoe Idealize.ShloMosaic.StableHlo
open Cert.Proof.Vq (IsNear wn cbn cbs lat dst nrm eps)

variable (V : Valuation τ sig (Elt Ideal))

theorem two_mul_sum (f : Fin 8 → EReal) : ∑ x, Ideal.ofBits .f32 0x40000000#32 * f x = Ideal.ofBits .f32 0x40000000#32 * ∑ x, f x := by
  have h2 : Ideal.ofBits .f32 0x40000000#32 = ((2 : ℝ) : EReal) := by
    simp [Ideal.ofBits, Ideal.ieee, -EReal.coe_mul]; norm_num
  have h0 : (0 : EReal) ≤ ((2 : ℝ) : EReal) := EReal.coe_nonneg.2 (by norm_num)
  rw [h2]
  simp only [Fin.sum_univ_eight, EReal.left_distrib_of_nonneg_of_ne_top h0 (EReal.coe_ne_top 2)]

/-- The negated distance at an index. -/
theorem dist_at (n : Fin 4) (t : Fin 4096) (k : Fin 8192) : h40 (after rB V) (ix2 ⟨n.val * 4096 + t.val, by omega⟩ k)
    = Neg.neg (α := EReal) (dst (fun e => h13 V (ix3 n e t)) (cbn fun i j => g7 V (ix2 i j)) (cbs fun i j => g7 V (ix2 i j)) k) := by
  simp only [h40, rB, rr]
  after_reads_at
  have e1 : ∀ h, (⟨(n.val * 4096 + t.val) / 4096, h⟩ : Fin 4) = n := fun h => Fin.ext (by show (n.val * 4096 + t.val) / 4096 = n.val; omega)
  have e2 : ∀ h, (⟨(n.val * 4096 + t.val) % 4096, h⟩ : Fin 4096) = t := fun h => Fin.ext (by show (n.val * 4096 + t.val) % 4096 = t.val; omega)
  simp only [e1, e2]
  unfold dst cbs cbn nrm
  rw [← two_mul_sum]
  refine congrArg Neg.neg (congrArg (· + _) (congrArg (_ - ·) (Finset.sum_congr rfl fun x _ => ?_)))
  exact mul_assoc _ _ _

end Cert.Proof.Rf

end
-- ==== Proof.RvC.lean ====
/-
  The reference's indices.
-/
module

public import proofs.«01_k».proof.Proof.Rv
public import Idealize.ShloMosaic.Lib.Pipeline.Frame

@[expose] public section

set_option maxRecDepth 16384

noncomputable section

namespace Cert.Proof.Rf

open Cert.ReferenceIdeal Cert.ReferenceIdeal.Gen
open Idealize.ShloMosaic Idealize.ShloMosaic.TcCoe Idealize.ShloMosaic.StableHlo
open Cert.Proof.Vq (IsNear wn cbn cbs lat dst nrm eps)

variable (V : Valuation τ sig (Elt Ideal))

/-- What the reduction of the rows takes and gives. -/
abbrev RowRed : Type := FVec Ideal S16384x8192 .f32 → IVec S16384x8192 32 → FVec Ideal S_ .f32 → IVec S_ 32 → S16384.Idx → Ideal .f32 × BitVec 32

/-- The indices' operations, the rows reduced by any function. -/
def rCf (f : RowRed) : List (HloOp τ sig (Elt Ideal)) :=
  [StableHlo.nullary main_call2_v0 (iotaInDim S16384x8192 32 1),
   StableHlo.nullary main_call2_cst (constant (F := Ideal) S_ .f32 0xFF800000#32),
   StableHlo.nullary main_call2_c (constantI S_ 32 0#32),
   StableHlo.quaternary main_v40 main_call2_v0 main_call2_cst main_call2_c main_call2_v1_0 ((fun x y u v j => (f x y u v j).1) : (⟨S16384x8192, .f32⟩ : BufTy).Contents (Elt Ideal) → (⟨S16384x8192, .i32⟩ : BufTy).Contents (Elt Ideal) → (⟨S_, .f32⟩ : BufTy).Contents (Elt Ideal) → (⟨S_, .i32⟩ : BufTy).Contents (Elt Ideal) → (⟨S16384, .f32⟩ : BufTy).Contents (Elt Ideal)),
   StableHlo.quaternary main_v40 main_call2_v0 main_call2_cst main_call2_c main_v41 ((fun x y u v j => (f x y u v j).2) : (⟨S16384x8192, .f32⟩ : BufTy).Contents (Elt Ideal) → (⟨S16384x8192, .i32⟩ : BufTy).Contents (Elt Ideal) → (⟨S_, .f32⟩ : BufTy).Contents (Elt Ideal) → (⟨S_, .i32⟩ : BufTy).Contents (Elt Ideal) → (⟨S16384, .i32⟩ : BufTy).Contents (Elt Ideal)),
   StableHlo.reshape main_v41 main_v42 (rfl : (.i32 : EltTy) = .i32) shapeCasts_S16384_S4x4096]

/-- The reduction the reference runs: the greatest of a row, with its column. -/
def rowRed : RowRed := fun x y u v j =>
  Host.argReduce (φ := .f32) (reducer_argmax_f32_i32 (F := Ideal)) x y u v reducesTo_S16384x8192_S16384_d1 h_S_ j

theorem rC_eq : rC (F := Ideal) = rCf rowRed := rfl

theorem idx_read' (f : RowRed) (n : Fin 4) (t : Fin 4096) : h42 (after (rCf f) V) (ix2 n t) = (f (h40 V) (iotaInDim S16384x8192 32 1)
      (constant (F := Ideal) S_ .f32 0xFF800000#32) (constantI S_ 32 0#32) (ix1 ⟨n.val * 4096 + t.val, by omega⟩)).2 := by
  simp only [h42, rCf, rr]
  after_reads_at

/-- The index read: the second of the pair the row's reduction keeps. -/
theorem idx_read (n : Fin 4) (t : Fin 4096) : h42 (after rC V) (ix2 n t) = (rowRed (h40 V) (iotaInDim S16384x8192 32 1)
      (constant (F := Ideal) S_ .f32 0xFF800000#32) (constantI S_ 32 0#32) (ix1 ⟨n.val * 4096 + t.val, by omega⟩)).2 := by
  rw [rC_eq, idx_read']

end Cert.Proof.Rf

end
-- ==== Proof.RvC2.lean ====
/-
  The reference's nearest indices.
-/
module

public import proofs.«01_k».proof.Proof.RvC
public import Idealize.ShloMosaic.Lib.Pipeline.Frame

@[expose] public section

set_option maxRecDepth 16384

noncomputable section

namespace Cert.Proof.Rf

open Cert.ReferenceIdeal Cert.ReferenceIdeal.Gen
open Idealize.ShloMosaic Idealize.ShloMosaic.TcCoe Idealize.ShloMosaic.StableHlo
open Cert.Proof.Vq (IsNear wn cbn cbs lat dst nrm eps)

variable (V : Valuation τ sig (Elt Ideal))

theorem iota_col (r : Fin 16384) (j : Fin 8192) : iotaInDim S16384x8192 32 1 (ix2 r j) = BitVec.ofNat 32 j.val := rfl

/-- The index at a row is a nearest entry. -/
theorem idx_near (n : Fin 4) (t : Fin 4096) : ∃ k : Fin 8192, h42 (after rC V) (ix2 n t) = BitVec.ofNat 32 k.val
    ∧ IsNear (fun j => Neg.neg (α := EReal) (h40 V (ix2 ⟨n.val * 4096 + t.val, by omega⟩ j))) k := by
  rw [idx_read]
  have hr : n.val * 4096 + t.val < 16384 := by omega
  generalize (⟨n.val * 4096 + t.val, hr⟩ : Fin 16384) = r
  have hu : ∀ i, constant (F := Ideal) S_ .f32 0xFF800000#32 i = (⊥ : EReal) := fun i => by
    show Ideal.ofBits .f32 0xFF800000#32 = ⊥
    simp [Ideal.ofBits, Ideal.ieee]
  generalize constant (F := Ideal) S_ .f32 0xFF800000#32 = u at hu ⊢
  have hv : ∀ i, constantI S_ 32 0#32 i = 0#32 := fun i => rfl
  generalize constantI S_ 32 0#32 = v at hv ⊢
  have hy := iota_col
  generalize iotaInDim S16384x8192 32 1 = y at hy ⊢
  show ∃ k : Fin 8192, (Host.argReduce (φ := .f32) (reducer_argmax_f32_i32 (F := Ideal)) (h40 V) y u v reducesTo_S16384x8192_S16384_d1 h_S_ (ix1 r)).2 = BitVec.ofNat 32 k.val ∧ _
  exact arg_near (h40 V) y u v hy hu hv r

end Cert.Proof.Rf

end
-- ==== Proof.RvD.lean ====
/-
  The codebook entries the reference takes.
-/
module

public import proofs.«01_k».proof.Proof.Rv
public import Idealize.ShloMosaic.Lib.StableHlo.Predicate
public import Idealize.ShloMosaic.Lib.Pipeline.Frame

@[expose] public section

set_option maxRecDepth 16384

noncomputable section

namespace Cert.Proof.Rf

open Cert.ReferenceIdeal Cert.ReferenceIdeal.Gen
open Idealize.ShloMosaic Idealize.ShloMosaic.TcCoe Idealize.ShloMosaic.StableHlo
open Cert.Proof.Vq (IsNear wn cbn cbs lat dst nrm eps)

variable (V : Valuation τ sig (Elt Ideal))

/-- The entry of the codebook taken. -/
theorem gat_at (x : FVec Ideal S8192x8 .f32) (w : IVec S4x4096x1 32) (n : Fin 4) (t : Fin 4096) (e : Fin 8) (k : Fin 8192)
    (hk : w (ix3 n t 0) = BitVec.ofNat 32 k.val) :
    Host.gather gather_S8192x8_S4x4096x1_S4x4096x8_2_0_n_n_0_2_18 x w (ix3 n t e) = x (ix2 k e) := by
  show x _ = x _
  congr 1
  have hs : (gather_S8192x8_S4x4096x1_S4x4096x8_2_0_n_n_0_2_18.siIdx (ix3 n t e) ⟨0, by decide⟩ : S4x4096x1.Idx) = ix3 n t 0 := by
    funext b
    fin_cases b <;> rfl
  have h0 : (gather_S8192x8_S4x4096x1_S4x4096x8_2_0_n_n_0_2_18.operandIdx (ix3 n t e) w 0).val = min (w (gather_S8192x8_S4x4096x1_S4x4096x8_2_0_n_n_0_2_18.siIdx (ix3 n t e) ⟨0, by decide⟩)).toInt.toNat 8191 := rfl
  have h1 : (gather_S8192x8_S4x4096x1_S4x4096x8_2_0_n_n_0_2_18.operandIdx (ix3 n t e) w 1).val = e.val := by
    have a : gather_S8192x8_S4x4096x1_S4x4096x8_2_0_n_n_0_2_18.start (ix3 n t e) w 1 = 0 := rfl
    have b : gather_S8192x8_S4x4096x1_S4x4096x8_2_0_n_n_0_2_18.batchCoord (ix3 n t e) 1 = 0 := rfl
    have c : gather_S8192x8_S4x4096x1_S4x4096x8_2_0_n_n_0_2_18.offCoord (ix3 n t e) 1 = e.val := rfl
    show _ + _ + _ = _
    rw [a, b, c, Nat.zero_add]
  rw [hs, hk, Predicate.toInt_ofNat_small _ (by omega)] at h0
  funext a
  fin_cases a
  · exact Fin.ext (h0.trans (by show min (Int.toNat (k.val : ℤ)) 8191 = k.val; omega))
  · exact Fin.ext h1

/-- The latent of an index in range is the codebook's entry. -/
theorem take_at (n : Fin 4) (t : Fin 4096) (e : Fin 8) (k : Fin 8192) (hk : h42 V (ix2 n t) = BitVec.ofNat 32 k.val) :
    h44 (after rD V) (ix3 n e t) = g7 V (ix2 k e) := by
  simp only [h44, rD, rr]
  after_reads_at
  have hk' : V (Proc.devRef .tc main_v42) (ix2 n t) = BitVec.ofNat 32 k.val := hk
  have hp := k.isLt
  have hlt : IntOp.cmpi .slt (BitVec.ofNat 32 k.val) 0#32 = 0#1 := by
    have h := (Predicate.slt_ofNat_iff k.val 0 (by omega) (by omega)).not.2 (by omega)
    exact (by decide : ∀ b : BitVec 1, b ≠ 1#1 → b = 0#1) _ h
  have hge : IntOp.cmpi .sge (BitVec.ofNat 32 k.val) 0#32 = 1#1 := (Predicate.sle_ofNat_iff 0 k.val (by omega) (by omega)).2 (by omega)
  have hle : IntOp.cmpi .sle (BitVec.ofNat 32 k.val) 8191#32 = 1#1 := (Predicate.sle_ofNat_iff k.val 8191 (by omega) (by omega)).2 (by omega)
  have sel0 : ∀ (a b : BitVec 32), Scalar.select 0#1 a b = b := fun a b => rfl
  rw [gat_at _ _ n t e k]
  · simp only [hk', hlt, sel0, hge, hle, Finset.univ_unique, Finset.fold_singleton]
    rfl
  · pointwise
    simp only [hk', hlt, sel0]

end Cert.Proof.Rf

end
-- ==== Proof.RvE.lean ====
/-
  The reference's result rows at an index.
-/
module

public import proofs.«01_k».proof.Proof.Rv
public import Idealize.ShloMosaic.Lib.Pipeline.Frame

@[expose] public section

set_option maxRecDepth 16384

noncomputable section

namespace Cert.Proof.Rf

open Cert.ReferenceIdeal Cert.ReferenceIdeal.Gen
open Idealize.ShloMosaic Idealize.ShloMosaic.TcCoe Idealize.ShloMosaic.StableHlo
open Cert.Proof.Vq (IsNear wn cbn cbs lat dst nrm eps)

variable (V : Valuation τ sig (Elt Ideal))

/-- The rows written back at an index. -/
theorem out_at (n : Fin 4) (o : Fin 1024) (t : Fin 4096) : h62 (after rE V) (ix3 n o t)
    = (∑ e : Fin 8, wn (fun i j => g4 V (ix2 i j)) (fun i => g5 V (ix1 i)) o e * ((h13 V (ix3 n e t) : EReal) + ((h44 V (ix3 n e t) : EReal) - (h13 V (ix3 n e t) : EReal))))
      + g6 V (ix1 o) := by
  simp only [h62, rE, rr]
  after_reads_at
  unfold wn
  refine congrArg (· + _) (Finset.sum_congr rfl fun x _ => ?_)
  exact mul_comm _ _

end Cert.Proof.Rf

end
-- ==== Proof.RvF.lean ====
/-
  The reference's untouched buffers.
-/
module

public import proofs.«01_k».proof.Proof.Rv
public import Idealize.ShloMosaic.Lib.Pipeline.Frame

@[expose] public section

set_option maxRecDepth 16384

noncomputable section

namespace Cert.Proof.Rf

open Cert.ReferenceIdeal Cert.ReferenceIdeal.Gen
open Idealize.ShloMosaic Idealize.ShloMosaic.TcCoe Idealize.ShloMosaic.StableHlo
open Cert.Proof.Vq (IsNear wn cbn cbs lat dst nrm eps)

variable (V : Valuation τ sig (Elt Ideal))

/-! ## The buffers a stretch leaves as they were -/

theorem rA_main_arg0 : after rA V (rr main_arg0) = V (rr main_arg0) := by
  simp only [rA, rr]
  after_reads_simp
theorem rA_main_arg1 : after rA V (rr main_arg1) = V (rr main_arg1) := by
  simp only [rA, rr]
  after_reads_simp
theorem rA_main_arg2 : after rA V (rr main_arg2) = V (rr main_arg2) := by
  simp only [rA, rr]
  after_reads_simp
theorem rA_main_arg3 : after rA V (rr main_arg3) = V (rr main_arg3) := by
  simp only [rA, rr]
  after_reads_simp
theorem rA_main_arg4 : after rA V (rr main_arg4) = V (rr main_arg4) := by
  simp only [rA, rr]
  after_reads_simp
theorem rA_main_arg5 : after rA V (rr main_arg5) = V (rr main_arg5) := by
  simp only [rA, rr]
  after_reads_simp
theorem rA_main_arg6 : after rA V (rr main_arg6) = V (rr main_arg6) := by
  simp only [rA, rr]
  after_reads_simp
theorem rA_main_arg7 : after rA V (rr main_arg7) = V (rr main_arg7) := by
  simp only [rA, rr]
  after_reads_simp
theorem rB_main_arg0 : after rB V (rr main_arg0) = V (rr main_arg0) := by
  simp only [rB, rr]
  after_reads_simp
theorem rB_main_arg1 : after rB V (rr main_arg1) = V (rr main_arg1) := by
  simp only [rB, rr]
  after_reads_simp
theorem rB_main_arg2 : after rB V (rr main_arg2) = V (rr main_arg2) := by
  simp only [rB, rr]
  after_reads_simp
theorem rB_main_arg3 : after rB V (rr main_arg3) = V (rr main_arg3) := by
  simp only [rB, rr]
  after_reads_simp
theorem rB_main_arg4 : after rB V (rr main_arg4) = V (rr main_arg4) := by
  simp only [rB, rr]
  after_reads_simp
theorem rB_main_arg5 : after rB V (rr main_arg5) = V (rr main_arg5) := by
  simp only [rB, rr]
  after_reads_simp
theorem rB_main_arg6 : after rB V (rr main_arg6) = V (rr main_arg6) := by
  simp only [rB, rr]
  after_reads_simp
theorem rB_main_arg7 : after rB V (rr main_arg7) = V (rr main_arg7) := by
  simp only [rB, rr]
  after_reads_simp
theorem rB_main_v13 : after rB V (rr main_v13) = V (rr main_v13) := by
  simp only [rB, rr]
  after_reads_simp
theorem rC_main_arg0 : after rC V (rr main_arg0) = V (rr main_arg0) := by
  simp only [rC, rr]
  after_reads_simp
theorem rC_main_arg1 : after rC V (rr main_arg1) = V (rr main_arg1) := by
  simp only [rC, rr]
  after_reads_simp
theorem rC_main_arg2 : after rC V (rr main_arg2) = V (rr main_arg2) := by
  simp only [rC, rr]
  after_reads_simp
theorem rC_main_arg3 : after rC V (rr main_arg3) = V (rr main_arg3) := by
  simp only [rC, rr]
  after_reads_simp
theorem rC_main_arg4 : after rC V (rr main_arg4) = V (rr main_arg4) := by
  simp only [rC, rr]
  after_reads_simp
theorem rC_main_arg5 : after rC V (rr main_arg5) = V (rr main_arg5) := by
  simp only [rC, rr]
  after_reads_simp
theorem rC_main_arg6 : after rC V (rr main_arg6) = V (rr main_arg6) := by
  simp only [rC, rr]
  after_reads_simp
theorem rC_main_arg7 : after rC V (rr main_arg7) = V (rr main_arg7) := by
  simp only [rC, rr]
  after_reads_simp
theorem rC_main_v13 : after rC V (rr main_v13) = V (rr main_v13) := by
  simp only [rC, rr]
  after_reads_simp
theorem rD_main_arg0 : after rD V (rr main_arg0) = V (rr main_arg0) := by
  simp only [rD, rr]
  after_reads_simp
theorem rD_main_arg1 : after rD V (rr main_arg1) = V (rr main_arg1) := by
  simp only [rD, rr]
  after_reads_simp
theorem rD_main_arg2 : after rD V (rr main_arg2) = V (rr main_arg2) := by
  simp only [rD, rr]
  after_reads_simp
theorem rD_main_arg3 : after rD V (rr main_arg3) = V (rr main_arg3) := by
  simp only [rD, rr]
  after_reads_simp
theorem rD_main_arg4 : after rD V (rr main_arg4) = V (rr main_arg4) := by
  simp only [rD, rr]
  after_reads_simp
theorem rD_main_arg5 : after rD V (rr main_arg5) = V (rr main_arg5) := by
  simp only [rD, rr]
  after_reads_simp
theorem rD_main_arg6 : after rD V (rr main_arg6) = V (rr main_arg6) := by
  simp only [rD, rr]
  after_reads_simp
theorem rD_main_arg7 : after rD V (rr main_arg7) = V (rr main_arg7) := by
  simp only [rD, rr]
  after_reads_simp
theorem rD_main_v13 : after rD V (rr main_v13) = V (rr main_v13) := by
  simp only [rD, rr]
  after_reads_simp
theorem rD_main_v42 : after rD V (rr main_v42) = V (rr main_v42) := by
  simp only [rD, rr]
  after_reads_simp
theorem rE_main_arg0 : after rE V (rr main_arg0) = V (rr main_arg0) := by
  simp only [rE, rr]
  after_reads_simp
theorem rE_main_arg1 : after rE V (rr main_arg1) = V (rr main_arg1) := by
  simp only [rE, rr]
  after_reads_simp
theorem rE_main_arg2 : after rE V (rr main_arg2) = V (rr main_arg2) := by
  simp only [rE, rr]
  after_reads_simp
theorem rE_main_arg3 : after rE V (rr main_arg3) = V (rr main_arg3) := by
  simp only [rE, rr]
  after_reads_simp
theorem rE_main_arg4 : after rE V (rr main_arg4) = V (rr main_arg4) := by
  simp only [rE, rr]
  after_reads_simp
theorem rE_main_arg5 : after rE V (rr main_arg5) = V (rr main_arg5) := by
  simp only [rE, rr]
  after_reads_simp
theorem rE_main_arg6 : after rE V (rr main_arg6) = V (rr main_arg6) := by
  simp only [rE, rr]
  after_reads_simp
theorem rE_main_arg7 : after rE V (rr main_arg7) = V (rr main_arg7) := by
  simp only [rE, rr]
  after_reads_simp
theorem rE_main_v13 : after rE V (rr main_v13) = V (rr main_v13) := by
  simp only [rE, rr]
  after_reads_simp
theorem rE_main_v42 : after rE V (rr main_v42) = V (rr main_v42) := by
  simp only [rE, rr]
  after_reads_simp

theorem rE_main_v45 : (after rE V (rr main_v45) : FVec Ideal S4 .f32) = fun _ => Ideal.ofBits .f32 0x00000000#32 := by
  simp only [rE, rr]
  after_reads_simp
  rfl
theorem rE_main_v46 : (after rE V (rr main_v46) : FVec Ideal S4 .f32) = fun _ => Ideal.ofBits .f32 0x00000000#32 := by
  simp only [rE, rr]
  after_reads_simp
  rfl

/-- Every operation's run is the stretches' one after another. -/
theorem rAll_eq : after rAll V = after rE (after rD (after rC (after rB (after rA V)))) := by
  simp only [rAll, after_append]

theorem rAll_main_arg0 : after rAll V (rr main_arg0) = V (rr main_arg0) := by
  rw [rAll_eq, rE_main_arg0, rD_main_arg0, rC_main_arg0, rB_main_arg0, rA_main_arg0]
theorem rAll_main_arg1 : after rAll V (rr main_arg1) = V (rr main_arg1) := by
  rw [rAll_eq, rE_main_arg1, rD_main_arg1, rC_main_arg1, rB_main_arg1, rA_main_arg1]
theorem rAll_main_arg2 : after rAll V (rr main_arg2) = V (rr main_arg2) := by
  rw [rAll_eq, rE_main_arg2, rD_main_arg2, rC_main_arg2, rB_main_arg2, rA_main_arg2]
theorem rAll_main_arg3 : after rAll V (rr main_arg3) = V (rr main_arg3) := by
  rw [rAll_eq, rE_main_arg3, rD_main_arg3, rC_main_arg3, rB_main_arg3, rA_main_arg3]
theorem rAll_main_arg4 : after rAll V (rr main_arg4) = V (rr main_arg4) := by
  rw [rAll_eq, rE_main_arg4, rD_main_arg4, rC_main_arg4, rB_main_arg4, rA_main_arg4]
theorem rAll_main_arg5 : after rAll V (rr main_arg5) = V (rr main_arg5) := by
  rw [rAll_eq, rE_main_arg5, rD_main_arg5, rC_main_arg5, rB_main_arg5, rA_main_arg5]
theorem rAll_main_arg6 : after rAll V (rr main_arg6) = V (rr main_arg6) := by
  rw [rAll_eq, rE_main_arg6, rD_main_arg6, rC_main_arg6, rB_main_arg6, rA_main_arg6]
theorem rAll_main_arg7 : after rAll V (rr main_arg7) = V (rr main_arg7) := by
  rw [rAll_eq, rE_main_arg7, rD_main_arg7, rC_main_arg7, rB_main_arg7, rA_main_arg7]

end Cert.Proof.Rf

end
-- ==== Proof.Eq.lean ====
/-
  The reference's results are the kernel's.
-/
module

public import proofs.«01_k».proof.Proof.RvA
public import proofs.«01_k».proof.Proof.RvB
public import proofs.«01_k».proof.Proof.RvC2
public import proofs.«01_k».proof.Proof.RvD
public import proofs.«01_k».proof.Proof.RvE
public import proofs.«01_k».proof.Proof.RvF
public import proofs.«01_k».proof.Proof.Dec
public import Idealize.ShloMosaic.Lib.Pipeline.Frame

@[expose] public section

set_option maxRecDepth 16384

noncomputable section

namespace Cert.Proof.Rf

open Cert.ReferenceIdeal Cert.ReferenceIdeal.Gen
open Idealize.ShloMosaic Idealize.ShloMosaic.TcCoe Idealize.ShloMosaic.StableHlo
open Cert.Proof.Vq (IsNear wn cbn cbs lat dst nrm eps entry a0 a1 a2 a3 a4 a5 a6 a7 latK dstK idxK outK idx_arr)

variable (V : Valuation τ sig (Elt Ideal)) (m : (ℓ : Loc Cert.KernelIdeal.nD Cert.KernelIdeal.τ Cert.KernelIdeal.sig) → Buf (Elt Ideal) ℓ) (d : Dev Cert.KernelIdeal.nD)

/-- The two memories hold the same arguments. -/
structure Same : Prop where
  s0 : ∀ n i t, g0 V (ix3 n i t) = a0 m d (ix3 n i t)
  s1 : ∀ i j, g1 V (ix2 i j) = a1 m d (ix2 i j)
  s2 : ∀ i, g2 V (ix1 i) = a2 m d (ix1 i)
  s3 : ∀ i, g3 V (ix1 i) = a3 m d (ix1 i)
  s4 : ∀ i j, g4 V (ix2 i j) = a4 m d (ix2 i j)
  s5 : ∀ i, g5 V (ix1 i) = a5 m d (ix1 i)
  s6 : ∀ i, g6 V (ix1 i) = a6 m d (ix1 i)
  s7 : ∀ i j, g7 V (ix2 i j) = a7 m d (ix2 i j)

variable {V m d}

theorem z_eq (h : Same V m d) (n : Fin 4) (e : Fin 8) (t : Fin 4096) : h13 (after rA V) (ix3 n e t) = latK m d n e t := by
  rw [z_at]
  simp only [h.s0, h.s1, h.s2, h.s3]
  rfl

theorem dist_eq (h : Same V m d) (n : Fin 4) (t : Fin 4096) (k : Fin 8192) : h40 (after rB (after rA V)) (ix2 ⟨n.val * 4096 + t.val, by omega⟩ k)
    = Neg.neg (α := EReal) (dstK m d n t k) := by
  have e7 : g7 (after rA V) = g7 V := rA_main_arg7 V
  rw [dist_at]
  simp only [z_eq h, e7, h.s7]
  rfl

/-- The index of the nearest entry, in both programs. -/
theorem idx_both (h : Same V m d) (n : Fin 4) (t : Fin 4096) : ∃ k : Fin 8192, h42 (after rC (after rB (after rA V))) (ix2 n t) = BitVec.ofNat 32 k.val
    ∧ idxK m d (ix3 n 0 t) = BitVec.ofNat 32 k.val := by
  obtain ⟨k, hk, hn⟩ := idx_near (after rB (after rA V)) n t
  obtain ⟨k', hk', hn'⟩ := idx_arr m d (ix3 n 0 t)
  simp only [dist_eq h, neg_neg] at hn
  obtain rfl : k = k' := hn.unique hn'
  exact ⟨k, hk, hk'⟩

theorem entry_ofNat (k : Fin 8192) : entry (BitVec.ofNat 32 k.val) = k :=
  Fin.ext (by show (BitVec.ofNat 32 k.val).toNat % 8192 = k.val; rw [BitVec.toNat_ofNat]; omega)

theorem q_eq (h : Same V m d) (n : Fin 4) (e : Fin 8) (t : Fin 4096) : h44 (after rD (after rC (after rB (after rA V)))) (ix3 n e t)
    = a7 m d (ix2 (entry (idxK m d (ix3 n 0 t))) e) := by
  obtain ⟨k, hk, hk'⟩ := idx_both h n t
  have e7 : g7 (after rC (after rB (after rA V))) = g7 V := (rC_main_arg7 _).trans ((rB_main_arg7 _).trans (rA_main_arg7 V))
  rw [take_at _ n t e k hk, hk', entry_ofNat, e7, h.s7]

theorem add_sub_real (z q : EReal) (ht : z ≠ ⊤) (hb : z ≠ ⊥) : z + (q - z) = q := by
  lift z to ℝ using ⟨ht, hb⟩
  induction q using EReal.rec with
  | bot => rfl
  | top => rfl
  | coe q => rw [← EReal.coe_sub, ← EReal.coe_add]; norm_num

theorem out_eq (h : Same V m d) (hf : ∀ n e t, latK m d n e t ≠ ⊤ ∧ latK m d n e t ≠ ⊥) (n : Fin 4) (o : Fin 1024) (t : Fin 4096) :
    h62 (after rAll V) (ix3 n o t) = outK m d n o t := by
  have e4 : g4 (after rD (after rC (after rB (after rA V)))) = g4 V := (rD_main_arg4 _).trans ((rC_main_arg4 _).trans ((rB_main_arg4 _).trans (rA_main_arg4 V)))
  have e5 : g5 (after rD (after rC (after rB (after rA V)))) = g5 V := (rD_main_arg5 _).trans ((rC_main_arg5 _).trans ((rB_main_arg5 _).trans (rA_main_arg5 V)))
  have e6 : g6 (after rD (after rC (after rB (after rA V)))) = g6 V := (rD_main_arg6 _).trans ((rC_main_arg6 _).trans ((rB_main_arg6 _).trans (rA_main_arg6 V)))
  have ez : h13 (after rD (after rC (after rB (after rA V)))) = h13 (after rA V) := (rD_main_v13 _).trans ((rC_main_v13 _).trans (rB_main_v13 _))
  rw [rAll_eq, out_at]
  simp only [e4, e5, e6, ez, h.s4, h.s5, h.s6, z_eq h, q_eq h]
  unfold outK
  refine congrArg (· + _) (Finset.sum_congr rfl fun x _ => congrArg₂ (· * ·) rfl ?_)
  exact add_sub_real _ _ (hf n x t).1 (hf n x t).2

theorem idx_eq (h : Same V m d) (n : Fin 4) (t : Fin 4096) : h42 (after rAll V) (ix2 n t) = idxK m d (ix3 n 0 t) := by
  obtain ⟨k, hk, hk'⟩ := idx_both h n t
  have e : h42 (after rAll V) = h42 (after rC (after rB (after rA V))) := by
    rw [rAll_eq]
    exact (rE_main_v42 _).trans (rD_main_v42 _)
  rw [e, hk, hk']

theorem lat_eq (h : Same V m d) (n : Fin 4) (e : Fin 8) (t : Fin 4096) : h13 (after rAll V) (ix3 n e t) = latK m d n e t := by
  have ez : h13 (after rAll V) = h13 (after rA V) := by
    rw [rAll_eq]
    exact (rE_main_v13 _).trans ((rD_main_v13 _).trans ((rC_main_v13 _).trans (rB_main_v13 _)))
  rw [ez, z_eq h]

/-! ## The results, whole -/

theorem res_out (h : Same V m d) (hf : ∀ n e t, latK m d n e t ≠ ⊤ ∧ latK m d n e t ≠ ⊥) :
    (after rAll V (rr main_v62) : S4x1024x4096.Idx → EReal) = Cert.Proof.Vq.V7 m d (Cert.Proof.Vq.tcr Cert.KernelIdeal.main_v36) := by
  rw [Cert.Proof.Vq.res_v36]
  funext j
  idx_vars j
  exact out_eq h hf _ _ _

theorem res_lat (h : Same V m d) :
    (after rAll V (rr main_v13) : S4x8x4096.Idx → EReal) = Cert.Proof.Vq.V7 m d (Cert.Proof.Vq.tcr Cert.KernelIdeal.main_v28_0) := by
  rw [Cert.Proof.Vq.res_v28_0]
  funext j
  idx_vars j
  exact lat_eq h _ _ _

theorem res_idx (h : Same V m d) :
    (after rAll V (rr main_v42) : S4x4096.Idx → BitVec 32) = Cert.Proof.Vq.V7 m d (Cert.Proof.Vq.tcr Cert.KernelIdeal.main_v29) := by
  rw [Cert.Proof.Vq.res_v29]
  funext j
  idx_vars j
  exact idx_eq h _ _

variable (m d)

theorem res_loss : (after rAll V (rr main_v45) : S4.Idx → EReal) = Cert.Proof.Vq.V7 m d (Cert.Proof.Vq.tcr Cert.KernelIdeal.main_v37) := by
  rw [Cert.Proof.Vq.res_v37, rAll_eq]
  exact rE_main_v45 _

theorem res_loss' : (after rAll V (rr main_v46) : S4.Idx → EReal) = Cert.Proof.Vq.V7 m d (Cert.Proof.Vq.tcr Cert.KernelIdeal.main_v38) := by
  rw [Cert.Proof.Vq.res_v38, rAll_eq]
  exact rE_main_v46 _

end Cert.Proof.Rf

end
-- ==== Proof.lean ====
/-
  The certificate's claim: the whole kernel's frame, the reference's, and that at exact arithmetic the kernel
  returns the reference's five results.
-/
module

public import proofs.«01_k».proof.Defs
public import proofs.«01_k».proof.Proof.Gen.KernelIdeal
public import proofs.«01_k».proof.Proof.Gen.ReferenceIdeal
public import proofs.«01_k».proof.Proof.Gen.Pre_one_nearest
public import proofs.«01_k».proof.Proof.Fin
public import proofs.«01_k».proof.Proof.Pc
public import proofs.«01_k».proof.Proof.Eq

@[expose] public section

set_option maxRecDepth 16384

noncomputable section

namespace Cert.Proof

open Idealize.ShloMosaic Idealize.ShloMosaic.TcCoe Idealize.ShloMosaic.StableHlo Idealize.SL.Sem

theorem frame_kernel : quiescent_KernelIdeal (hKernelIdeal := Cert.KernelIdeal.Gen.facts) (hPre_one_nearest := Cert.Pre_one_nearest.Gen.facts) := by
  intro m g _
  refine (θ_run Cert.KernelIdeal.defs _ _).mono (fun r h => ⟨fun c => ?_, h.2⟩) (Vq.run_val m g)
  obtain ⟨u0, u1, u2, u3, u4, u5, u6, u7⟩ := Vq.uc0
  exact ⟨(h.1 c _ u0).trans (Vq.V7_arg0 m c), (h.1 c _ u1).trans (Vq.V7_arg1 m c), (h.1 c _ u2).trans (Vq.V7_arg2 m c), (h.1 c _ u3).trans (Vq.V7_arg3 m c), (h.1 c _ u4).trans (Vq.V7_arg4 m c), (h.1 c _ u5).trans (Vq.V7_arg5 m c), (h.1 c _ u6).trans (Vq.V7_arg6 m c), (h.1 c _ u7).trans (Vq.V7_arg7 m c)⟩

theorem frame_reference : quiescent_ReferenceIdeal (hReferenceIdeal := Cert.ReferenceIdeal.Gen.facts) := by
  intro m g _
  refine (θ_run Cert.ReferenceIdeal.defs _ _).mono (fun r h => ⟨fun c => ?_, Idealize.ShloMosaic.sem_eq_zero_of_no_sems (by decide) r.2⟩) (Rf.run_main m g)
  exact ⟨(h c _).trans (Rf.rAll_main_arg0 _), (h c _).trans (Rf.rAll_main_arg1 _), (h c _).trans (Rf.rAll_main_arg2 _), (h c _).trans (Rf.rAll_main_arg3 _), (h c _).trans (Rf.rAll_main_arg4 _), (h c _).trans (Rf.rAll_main_arg5 _), (h c _).trans (Rf.rAll_main_arg6 _), (h c _).trans (Rf.rAll_main_arg7 _)⟩

theorem frame_reference_pre : quiescent_ReferenceIdeal_pre_one_nearest (hReferenceIdeal := Cert.ReferenceIdeal.Gen.facts) (hPre_one_nearest := Cert.Pre_one_nearest.Gen.facts) :=
  fun m g _ => frame_reference m g trivial

theorem values : algebraic_KernelIdeal_ReferenceIdeal (hKernelIdeal := Cert.KernelIdeal.Gen.facts) (hReferenceIdeal := Cert.ReferenceIdeal.Gen.facts)
    (hPre_one_nearest := Cert.Pre_one_nearest.Gen.facts) := by
  intro m g m' g' hpre hsame
  have hs : ∀ c, Rf.Same (launchContents m' c) m c := fun c => by
    obtain ⟨e0, e1, e2, e3, e4, e5, e6, e7⟩ := hsame c
    exact ⟨fun n i t => congrFun e0 _, fun i j => congrFun e1 _, fun i => congrFun e2 _, fun i => congrFun e3 _, fun i j => congrFun e4 _,
      fun i => congrFun e5 _, fun i => congrFun e6 _, fun i j => congrFun e7 _⟩
  have hf : ∀ c n e t, Vq.latK m c n e t ≠ ⊤ ∧ Vq.latK m c n e t ≠ ⊥ := fun c n e t => Pre.lat_real _ _ _ _ _ _ _ _ (hpre c) n e t
  refine ⟨fun c => Vq.V7 m c (Vq.tcr Cert.KernelIdeal.main_v36), fun c => Vq.V7 m c (Vq.tcr Cert.KernelIdeal.main_v37),
    fun c => Vq.V7 m c (Vq.tcr Cert.KernelIdeal.main_v38), fun c => Vq.V7 m c (Vq.tcr Cert.KernelIdeal.main_v29),
    fun c => Vq.V7 m c (Vq.tcr Cert.KernelIdeal.main_v28_0), ?_, ?_⟩
  · refine (θ_run Cert.KernelIdeal.defs _ _).mono (fun r h c => ?_) (Vq.run_val m g)
    obtain ⟨u0, u1, u2, u3, u4, u5, u6, u7⟩ := Vq.uc0
    obtain ⟨w0, w1, w2, w3, w4⟩ := Vq.uc1
    exact ⟨h.1 c _ w0, h.1 c _ w1, h.1 c _ w2, h.1 c _ w3, h.1 c _ w4, (h.1 c _ u0).trans (Vq.V7_arg0 m c), (h.1 c _ u1).trans (Vq.V7_arg1 m c), (h.1 c _ u2).trans (Vq.V7_arg2 m c), (h.1 c _ u3).trans (Vq.V7_arg3 m c), (h.1 c _ u4).trans (Vq.V7_arg4 m c), (h.1 c _ u5).trans (Vq.V7_arg5 m c), (h.1 c _ u6).trans (Vq.V7_arg6 m c), (h.1 c _ u7).trans (Vq.V7_arg7 m c)⟩
  · refine (θ_run Cert.ReferenceIdeal.defs _ _).mono (fun r h c => ?_) (Rf.run_main m' g')
    refine ⟨(h c _).trans (Rf.res_out (hs c) (hf c)), (h c _).trans (Rf.res_loss m c), (h c _).trans (Rf.res_loss' m c), (h c _).trans (Rf.res_idx (hs c)),
      (h c _).trans (Rf.res_lat (hs c)), (h c _).trans (Rf.rAll_main_arg0 _), (h c _).trans (Rf.rAll_main_arg1 _), (h c _).trans (Rf.rAll_main_arg2 _), (h c _).trans (Rf.rAll_main_arg3 _), (h c _).trans (Rf.rAll_main_arg4 _), (h c _).trans (Rf.rAll_main_arg5 _), (h c _).trans (Rf.rAll_main_arg6 _), (h c _).trans (Rf.rAll_main_arg7 _)⟩

theorem claim : Cert.Claim :=
  ⟨Cert.KernelIdeal.Gen.facts, Cert.ReferenceIdeal.Gen.facts, Cert.Pre_one_nearest.Gen.facts, frame_kernel, frame_reference, frame_reference_pre, values⟩

end Cert.Proof

end
